-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S10000x128 : S_.BroadcastsInDim S10000x128 (![] : Fin 0 → Fin S10000x128.rank)
  bcast_S_S10000x10000 : S_.BroadcastsInDim S10000x10000 (![] : Fin 0 → Fin S10000x10000.rank)
  bcast_S_S128x64 : S_.BroadcastsInDim S128x64 (![] : Fin 0 → Fin S128x64.rank)
  bcast_S_S64 : S_.BroadcastsInDim S64 (![] : Fin 0 → Fin S64.rank)
  bcast_S_S64x32 : S_.BroadcastsInDim S64x32 (![] : Fin 0 → Fin S64x32.rank)

variable [Facts]

def fn {F : FTy → Type} [FloatOps F] (main_arg0 : FVec F S10000x128 .f32) (main_arg1 : FVec F S10000x10000 .f32) (main_arg2 : FVec F S128x64 .f32) (main_arg3 : FVec F S64 .f32) (main_arg4 : FVec F S64x32 .f32) (main_arg5 : FVec F S32 .f32) : IVec S10000x128 1 × IVec S10000x10000 1 × IVec S128x64 1 × IVec S64 1 × IVec S64x32 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S10000x10000 .f32 := Host.absf main_arg1
  let main_cst_0 : FVec F S_ .f32 := constant S_ .f32 0x7F800000#32
  let main_v4 : FVec F S10000x10000 .f32 := broadcastInDim S10000x10000 ![] bcast_S_S10000x10000 main_cst_0
  let main_v5 : IVec S10000x10000 1 := cmpf .olt main_v3 main_v4
  let main_v6 : FVec F S128x64 .f32 := Host.absf main_arg2
  let main_cst_1 : FVec F S_ .f32 := constant S_ .f32 0x7F800000#32
  let main_v7 : FVec F S128x64 .f32 := broadcastInDim S128x64 ![] bcast_S_S128x64 main_cst_1
  let main_v8 : IVec S128x64 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64x32 .f32 := Host.absf main_arg4
  let main_cst_3 : FVec F S_ .f32 := constant S_ .f32 0x7F800000#32
  let main_v13 : FVec F S64x32 .f32 := broadcastInDim S64x32 ![] bcast_S_S64x32 main_cst_3
  let main_v14 : IVec S64x32 1 := cmpf .olt main_v12 main_v13
  (main_v2, main_v5, main_v8, main_v11, main_v14)
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S1x64 : Shape := ⟨2, ![1, 64]⟩
abbrev S1x32 : Shape := ⟨2, ![1, 32]⟩
abbrev S10000x64 : Shape := ⟨2, ![10000, 64]⟩
abbrev S400x10000 : Shape := ⟨2, ![400, 10000]⟩
abbrev S400x64 : Shape := ⟨2, ![400, 64]⟩
abbrev S10000x32 : Shape := ⟨2, ![10000, 32]⟩
abbrev S1000x10000 : Shape := ⟨2, ![1000, 10000]⟩
abbrev S1000x32 : Shape := ⟨2, ![1000, 32]⟩
abbrev S1x1 : Shape := ⟨2, ![1, 1]⟩
abbrev S1x10000x32 : Shape := ⟨3, ![1, 10000, 32]⟩
abbrev S1 : Shape := ⟨1, ![1]⟩
abbrev S1x1x1 : Shape := ⟨3, ![1, 1, 1]⟩
abbrev S1000x64 : Shape := ⟨2, ![1000, 64]⟩

abbrev nBuf : Space → Nat
  | .hbm => 11
  | .vmem => 18
  | .smem => 1
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x64, .f32⟩
  | .hbm, ⟨7, _⟩ => ⟨S1x32, .f32⟩
  | .hbm, ⟨8, _⟩ => ⟨S10000x64, .f32⟩
  | .hbm, ⟨9, _⟩ => ⟨S10000x10000, .fp8e4m3⟩
  | .hbm, ⟨10, _⟩ => ⟨S10000x32, .f32⟩
  | .local _ .vmem, ⟨0, _⟩ => ⟨S10000x128, .f32⟩
  | .local _ .vmem, ⟨1, _⟩ => ⟨S128x64, .f32⟩
  | .local _ .vmem, ⟨2, _⟩ => ⟨S1x64, .f32⟩
  | .local _ .vmem, ⟨3, _⟩ => ⟨S400x10000, .f32⟩
  | .local _ .vmem, ⟨4, _⟩ => ⟨S400x10000, .f32⟩
  | .local _ .vmem, ⟨5, _⟩ => ⟨S400x64, .f32⟩
  | .local _ .vmem, ⟨6, _⟩ => ⟨S400x64, .f32⟩
  | .local _ .vmem, ⟨7, _⟩ => ⟨S400x10000, .fp8e4m3⟩
  | .local _ .vmem, ⟨8, _⟩ => ⟨S400x10000, .fp8e4m3⟩
  | .local _ .vmem, ⟨9, _⟩ => ⟨S10000x64, .f32⟩
  | .local _ .vmem, ⟨10, _⟩ => ⟨S10000x64, .f32⟩
  | .local _ .vmem, ⟨11, _⟩ => ⟨S64x32, .f32⟩
  | .local _ .vmem, ⟨12, _⟩ => ⟨S1x32, .f32⟩
  | .local _ .vmem, ⟨13, _⟩ => ⟨S1000x10000, .fp8e4m3⟩
  | .local _ .vmem, ⟨14, _⟩ => ⟨S1000x10000, .fp8e4m3⟩
  | .local _ .vmem, ⟨15, _⟩ => ⟨S1000x32, .f32⟩
  | .local _ .vmem, ⟨16, _⟩ => ⟨S1000x32, .f32⟩
  | .local _ .vmem, ⟨17, _⟩ => ⟨S10000x64, .fp8e4m3⟩
  | .local _ .smem, ⟨0, _⟩ => ⟨S1x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x10000 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x10000 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S10000x64 : Shape := ⟨2, ![10000, 64]⟩
abbrev S1x64 : Shape := ⟨2, ![1, 64]⟩
abbrev S_ : Shape := ⟨0, ![]⟩
abbrev S10000x32 : Shape := ⟨2, ![10000, 32]⟩
abbrev S1x32 : Shape := ⟨2, ![1, 32]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x32, .f32⟩
  | .hbm, ⟨15, _⟩ => ⟨S10000x32, .f32⟩
  | .hbm, ⟨16, _⟩ => ⟨S1x32, .f32⟩
  | .hbm, ⟨17, _⟩ => ⟨S10000x32, .f32⟩
  | .hbm, ⟨18, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.Common.lean ====
/-
  What both kernel passes share: the resource algebra, a memref owned at what it reads, and the branch's test of
  "this is the first grid point".
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Nothing bounds the number of steps of a call. -/
abbrev 𝒱₀ : Variants := Variants.none

/-- The whole buffer behind memref `M` on core `c`, held at contents `f`. -/
abbrev held (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- Memref `M` on core `c`, owned at what it reads: `X`. -/
abbrev own (c : Dev nD) {sp : Space} {S : Shape} {e : EltTy} (M : Memref sig .tc sp S e) (X : S.Idx → Elt F e) : sProp 𝕄 :=
  owns (c : Thread nD τ) M fullShare X

/-- Core `c`'s buffer `b`, held at some contents. -/
abbrev anything (c : Dev nD) (b : Ref sig .tc) : sProp 𝕄 :=
  iprop(∃ f : Buf (Elt F) ((c : Thread nD τ).loc b), ((c : Thread nD τ).loc b) ↦{fullShare} f)

omit [FloatOps F] in
/-- A whole memref owned at `X` is its buffer held at contents that read `X`. -/
theorem own_eq (c : Dev nD) {sp : Space} {S : Shape} {e : EltTy} {M : Memref sig .tc sp S e} (h : M.IsWhole) (X : S.Idx → Elt F e) :
    own c M X = iprop(∃ f, ⌜M.view.read (Elt F) f = X⌝ ∗ held c M f) := by
  obtain ⟨b, hsp, hsh, he, h⟩ := h
  subst hsp hsh he
  cases h
  show owns (c : Thread nD τ) (Memref.whole b) fullShare X = _
  rw [owns_whole_eq]
  rfl

omit [FloatOps F] in
/-- A whole buffer owned at `X` is that buffer held at `X`. -/
theorem own_whole (c : Dev nD) (b : Ref sig .tc) (X : Buf (Elt F) ((c : Thread nD τ).loc b)) :
    own c (Memref.whole b) X = (((c : Thread nD τ).loc b) ↦{fullShare} X : sProp 𝕄) :=
  owns_whole (c : Thread nD τ) b fullShare X

/-- The branch's test of "this is the first grid point". -/
abbrev isFirst (n : Nat) : Prop :=
  Scalar.cmpi .ne (Scalar.extui (Scalar.cmpi .eq (BitVec.ofNat 32 n) 0#32)) 0#32 = 1#1

/-- The test holds at the first grid point alone (a grid of at most 32 points). -/
theorem isFirst_iff : ∀ n : Fin 32, isFirst n.val ↔ n.val = 0 := by decide

end Cert.Proof

end
-- ==== Proof.Pass1Body.lean ====
/-
  Pass 1's kernel body as a triple: what one grid point reads and what it leaves, over memrefs owned at contents.
  The first point computes the feature product into the scratch; every point reads the scratch, writes its block of
  the hidden layer and its block of the scaled adjacency.
-/
module

public import proofs.«01_k».proof.Proof.Common
public import Idealize.ShloMosaic.Lib.VecWindow
public import Idealize.ShloMosaic.Lib.Tactic

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first grid point of pass 1: the scratch is left at the feature product, and the two blocks at what that point writes. -/
theorem pass1_first (c : Dev nD) (i : grid0.Coords) (hi : isFirst (i 0).val)
    (M1 : Memref sig .tc .vmem S10000x128 .f32) (h1 : M1.IsWhole) (M2 : Memref sig .tc .vmem S128x64 .f32) (h2 : M2.IsWhole)
    (M3 : Memref sig .tc .vmem S1x64 .f32) (h3 : M3.IsWhole) (M4 : Memref sig .tc .vmem S400x10000 .f32) (h4 : M4.IsWhole)
    (M5 : Memref sig .tc .vmem S400x64 .f32) (h5 : M5.IsWhole) (M6 : Memref sig .tc .vmem S400x10000 .fp8e4m3) (h6 : M6.IsWhole)
    (M7 : Memref sig .tc .vmem S10000x64 .f32) (h7 : M7.IsWhole)
    (x : Vec F S10000x128 .f32) (w : Vec F S128x64 .f32) (b : Vec F S1x64 .f32) (a : Vec F S400x10000 .f32)
    (y5 : Vec F S400x64 .f32) (y6 : Vec F S400x10000 .fp8e4m3) (y7 : Vec F S10000x64 .f32)
    (E : Set ℕ) (Q : PUnit → sProp 𝕄) :
    iprop(own c M1 x ∗ own c M2 w ∗ own c M3 b ∗ own c M4 a ∗ own c M5 y5 ∗ own c M6 y6 ∗ own c M7 y7
      ∗ (iprop(own c M1 x ∗ own c M2 w ∗ own c M3 b ∗ own c M4 a ∗ own c M5 (k0_pay3 a (k0_pay1 x w) b) ∗ own c M6 (k0_pay2 a) ∗ own c M7 (k0_pay1 x w)) -∗ Q ⟨⟩))
      ⊢ wp frame (wpE (defs₀ (F := F)) 𝒱₀ c none) E (cc0__pass1_kernel i M1 h1 M2 h2 M3 h3 M4 h4 M5 h5 M6 h6 M7 h7) Q := by
  simp only [own_eq c h1, own_eq c h2, own_eq c h3, own_eq c h4, own_eq c h5, own_eq c h6, own_eq c h7]
  rw [cc0__pass1_kernel_eq_skeleton]
  iintro ⟨⟨%f1, %e1, H1⟩, ⟨%f2, %e2, H2⟩, ⟨%f3, %e3, H3⟩, ⟨%f4, %e4, H4⟩, ⟨%f5, -, H5⟩, ⟨%f6, -, H6⟩, ⟨%f7, -, H7⟩, Hk⟩
  subst e1 e2 e3 e4
  unfold cc0__pass1_kernel_skel
  sl_exec! (disch := sl_exact hi)
  sl_step
  iapply Hk
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists _; isplitr; swap; (· iexact H5); ipureintro; unfold pass1_first.sl.H5_1 pass1_first.sl.v8 pass1_first.sl.H7_1; rw [View.read_writes_full, View.readCov_full]; repeat rw [View.readAt_full]
  isplitl [H6]; · iexists _; isplitr; swap; (· iexact H6); ipureintro; unfold pass1_first.sl.H6_1; rw [View.read_writes_full]; repeat rw [View.readAt_full]
  iexists _; isplitr; swap; (· iexact H7); ipureintro; unfold pass1_first.sl.H7_1; rw [View.read_writes_full]; repeat rw [View.readAt_full]

/-- Every later grid point of pass 1: the scratch is read and kept. -/
theorem pass1_next (c : Dev nD) (i : grid0.Coords) (hi : ¬ isFirst (i 0).val)
    (M1 : Memref sig .tc .vmem S10000x128 .f32) (h1 : M1.IsWhole) (M2 : Memref sig .tc .vmem S128x64 .f32) (h2 : M2.IsWhole)
    (M3 : Memref sig .tc .vmem S1x64 .f32) (h3 : M3.IsWhole) (M4 : Memref sig .tc .vmem S400x10000 .f32) (h4 : M4.IsWhole)
    (M5 : Memref sig .tc .vmem S400x64 .f32) (h5 : M5.IsWhole) (M6 : Memref sig .tc .vmem S400x10000 .fp8e4m3) (h6 : M6.IsWhole)
    (M7 : Memref sig .tc .vmem S10000x64 .f32) (h7 : M7.IsWhole)
    (x : Vec F S10000x128 .f32) (w : Vec F S128x64 .f32) (b : Vec F S1x64 .f32) (a : Vec F S400x10000 .f32)
    (y5 : Vec F S400x64 .f32) (y6 : Vec F S400x10000 .fp8e4m3) (y7 : Vec F S10000x64 .f32)
    (E : Set ℕ) (Q : PUnit → sProp 𝕄) :
    iprop(own c M1 x ∗ own c M2 w ∗ own c M3 b ∗ own c M4 a ∗ own c M5 y5 ∗ own c M6 y6 ∗ own c M7 y7
      ∗ (iprop(own c M1 x ∗ own c M2 w ∗ own c M3 b ∗ own c M4 a ∗ own c M5 (k0_pay3 a y7 b) ∗ own c M6 (k0_pay2 a) ∗ own c M7 y7) -∗ Q ⟨⟩))
      ⊢ wp frame (wpE (defs₀ (F := F)) 𝒱₀ c none) E (cc0__pass1_kernel i M1 h1 M2 h2 M3 h3 M4 h4 M5 h5 M6 h6 M7 h7) Q := by
  simp only [own_eq c h1, own_eq c h2, own_eq c h3, own_eq c h4, own_eq c h5, own_eq c h6, own_eq c h7]
  rw [cc0__pass1_kernel_eq_skeleton]
  iintro ⟨⟨%f1, %e1, H1⟩, ⟨%f2, %e2, H2⟩, ⟨%f3, %e3, H3⟩, ⟨%f4, %e4, H4⟩, ⟨%f5, -, H5⟩, ⟨%f6, -, H6⟩, ⟨%f7, %e7, H7⟩, Hk⟩
  subst e1 e2 e3 e4 e7
  unfold cc0__pass1_kernel_skel
  sl_exec! (disch := sl_exact hi)
  sl_step
  iapply Hk
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists _; isplitr; swap; (· iexact H5); ipureintro; unfold pass1_next.sl.H5_1; rw [View.read_writes_full]; repeat rw [View.readAt_full]
  isplitl [H6]; · iexists _; isplitr; swap; (· iexact H6); ipureintro; unfold pass1_next.sl.H6_1; rw [View.read_writes_full]; repeat rw [View.readAt_full]
  iexists f7; isplitr; swap; (· iexact H7); ipureintro; rfl

end Cert.Proof

end
-- ==== Proof.Pass1.lean ====
/-
  Pass 1 as a pipeline region: the contents its windows and its scratch hold at every grid point, the proof that the
  kernel body keeps to them, and the region entered from any contents `V` of the unscoped buffers.
-/
module

public import proofs.«01_k».proof.Proof.Pass1Body
public import proofs.«01_k».proof.Proof.Gen.KernelIdeal.Points
public import proofs.«01_k».proof.Proof.Gen.KernelIdeal.Regions
public import Idealize.ShloMosaic.Lib.Pipeline.ValueKit

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Pass1

variable (V : (c : Dev nD) → (b : Ref sig .tc) → Buf (Elt F) ((c : Thread nD τ).loc b))

/-- The adjacency block grid point `t` reads: 400 rows of the array. -/
def adjBlock (c : Dev nD) (t : Fin cfg0.N) : Vec F S400x10000 .f32 :=
  ((cfg0.win 3).blk t).view.read (Elt F) (V c main_arg1)

/-- The feature product the first point leaves in the scratch. -/
def feat (c : Dev nD) : Vec F S10000x64 .f32 := k0_pay1 (V c main_arg0 : Vec F S10000x128 .f32) (V c main_arg2 : Vec F S128x64 .f32)

/-- Window 0's one block is its whole array. -/
theorem whole0 (c : Dev nD) (t : Fin cfg0.N) : ((cfg0.win 0).blk t).view.read (Elt F) (V c main_arg0) = V c main_arg0 := by
  funext y
  show V c main_arg0 ((win0_0.rect t).emb y) = V c main_arg0 y
  exact congrArg (V c main_arg0) (funext fun a => Fin.ext (win0_0.rect_emb_val_of_index_zero t a (by fin_cases a <;> rfl) y))

/-- Window 1's one block is its whole array. -/
theorem whole1 (c : Dev nD) (t : Fin cfg0.N) : ((cfg0.win 1).blk t).view.read (Elt F) (V c main_arg2) = V c main_arg2 := by
  funext y
  show V c main_arg2 ((win0_1.rect t).emb y) = V c main_arg2 y
  exact congrArg (V c main_arg2) (funext fun a => Fin.ext (win0_1.rect_emb_val_of_index_zero t a (by fin_cases a <;> rfl) y))

/-- Window 2's one block is its whole array. -/
theorem whole2 (c : Dev nD) (t : Fin cfg0.N) : ((cfg0.win 2).blk t).view.read (Elt F) (V c main_v0) = V c main_v0 := by
  funext y
  show V c main_v0 ((win0_2.rect t).emb y) = V c main_v0 y
  exact congrArg (V c main_v0) (funext fun a => Fin.ext (win0_2.rect_emb_val_of_index_zero t a (by fin_cases a <;> rfl) y))

/-- The scoped buffers this region neither stages nor uses: held at something. -/
def Others (c : Dev nD) : sProp 𝕄 :=
  iprop(anything c cc1_stg0_0 ∗ anything c cc1_stg1_0 ∗ anything c cc1_stg2_0 ∗ anything c cc1_stg3_0 ∗ anything c cc1_stg3_1 ∗ anything c cc1_stg4_0
    ∗ anything c cc1_stg4_1 ∗ anything c cc1_scratch0 ∗ anything c cc1_scratch1)

/-- Between grid points: past the first, the scratch holds the feature product. -/
def Inv (c : Dev nD) (n : Nat) : sProp 𝕄 :=
  iprop((∃ X, ⌜n ≠ 0 → X = feat V c⌝ ∗ own c (Memref.whole cc0_scratch0) X) ∗ Others c)

/-- The region's proof data, entered at the contents `V`. -/
def dat (c : Dev nD) : Dat τ (Elt F) Unit ℕ (UR sig nD τ) ℕ cfg0 c where
  A w := V c (Pipeline.arrRef spec0 w)
  after w t := match w with
    | ⟨0, _⟩ => V c main_arg0
    | ⟨1, _⟩ => V c main_arg2
    | ⟨2, _⟩ => V c main_v0
    | ⟨3, _⟩ => adjBlock V c t
    | ⟨4, _⟩ => k0_pay3 (adjBlock V c t) (feat V c) (V c main_v0 : Vec F S1x64 .f32)
    | ⟨5, _⟩ => k0_pay2 (adjBlock V c t)
  Φ t := Inv V c t.val
  q _ := fullShare
  owed _ := 0

theorem before0 (c : Dev nD) (t : Fin cfg0.N) (d) : (dat V c).before 0 t d = V c main_arg0 :=
  ((dat V c).before_in_eq_fetched 0 rfl (fun _ => rfl) (fun _ _ _ => rfl) (fun t => (whole0 V c t).symm) t d).trans (whole0 V c t)
theorem before1 (c : Dev nD) (t : Fin cfg0.N) (d) : (dat V c).before 1 t d = V c main_arg2 :=
  ((dat V c).before_in_eq_fetched 1 rfl (fun _ => rfl) (fun _ _ _ => rfl) (fun t => (whole1 V c t).symm) t d).trans (whole1 V c t)
theorem before2 (c : Dev nD) (t : Fin cfg0.N) (d) : (dat V c).before 2 t d = V c main_v0 :=
  ((dat V c).before_in_eq_fetched 2 rfl (fun _ => rfl) (fun _ _ _ => rfl) (fun t => (whole2 V c t).symm) t d).trans (whole2 V c t)
theorem before3 (c : Dev nD) (t : Fin cfg0.N) (d) : (dat V c).before 3 t d = adjBlock V c t :=
  (dat V c).before_in_eq_fetched 3 rfl (fun _ => rfl) (fun _ _ _ => rfl) (fun _ => rfl) t d

/-- The grid has one axis: a point's coordinate is its number. -/
theorem coord : ∀ t : Fin grid0.N, (grid0.coords t 0).val = t.val := by decide +kernel

theorem first_iff (t : Fin grid0.N) : isFirst (grid0.coords t 0).val ↔ t.val = 0 := by
  rw [coord]
  have h : t.val < 25 := Nat.lt_of_lt_of_eq t.isLt N_0
  exact isFirst_iff ⟨t.val, by omega⟩

/-- The kernel body keeps to the proof data at every grid point. -/
theorem body_obligation (c : Dev nD) : BodyObligation (dat V c) (defs₀ (F := F)) 𝒱₀ () Set.univ := fun t => by
  rw [bigSep_W0, bigSep_W0]
  rw [show (dat V c).Φ t.castSucc = Inv V c t.val from rfl, show (dat V c).Φ t.succ = Inv V c (t.val + 1) from rfl,
    show (dat V c).owesAt () t.succ = (dat V c).owesAt () t.castSucc from rfl]
  have hrow : defs₀ (F := F) .tc cfg0.body (cfg0.bodyArgs t (cfg0.slots t)) = bodyAt0 t := by
    unfold defs₀; rw [Defs.onTc_tc]
  rw [hrow]
  simp only [before0, before1, before2, before3]
  unfold Inv
  iintro ⟨⟨⟨%X, %hX, HS⟩, HO⟩, Howes, ⟨%d0, H0⟩, ⟨%d1, H1⟩, ⟨%d2, H2⟩, ⟨%d3, H3⟩, ⟨%d4, H4⟩, ⟨%d5, H5⟩⟩
  by_cases h0 : t.val = 0
  · iapply (pass1_first c (grid0.coords t) ((first_iff t).mpr h0) (st0_0 t) _ (st0_1 t) _ (st0_2 t) _ (st0_3 t) _ (st0_4 t) _ (st0_5 t) _ (Memref.whole cc0_scratch0) _
      (V c main_arg0) (V c main_arg2) (V c main_v0) (adjBlock V c t) _ _ X Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS HO]
    · isplitl [HS]
      · iexists _; isplitr; swap; (· iexact HS); ipureintro; exact fun _ => rfl
      iexact HO
    isplitl [Howes]; · iexact Howes
    isplitl [H0]; · iexact H0
    isplitl [H1]; · iexact H1
    isplitl [H2]; · iexact H2
    isplitl [H3]; · iexact H3
    isplitl [H4]; · iexact H4
    iexact H5
  · obtain rfl := hX h0
    iapply (pass1_next c (grid0.coords t) (fun h => h0 ((first_iff t).mp h)) (st0_0 t) _ (st0_1 t) _ (st0_2 t) _ (st0_3 t) _ (st0_4 t) _ (st0_5 t) _ (Memref.whole cc0_scratch0) _
      (V c main_arg0) (V c main_arg2) (V c main_v0) (adjBlock V c t) _ _ (feat V c) Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS HO]
    · isplitl [HS]
      · iexists _; isplitr; swap; (· iexact HS); ipureintro; exact fun _ => rfl
      iexact HO
    isplitl [Howes]; · iexact Howes
    isplitl [H0]; · iexact H0
    isplitl [H1]; · iexact H1
    isplitl [H2]; · iexact H2
    isplitl [H3]; · iexact H3
    isplitl [H4]; · iexact H4
    iexact H5

end Pass1

end Cert.Proof

end
-- ==== Proof.Pass2Body.lean ====
/-
  Pass 2's kernel body as a triple: what one grid point reads and what it leaves, over memrefs owned at contents. The
  first point computes the second layer's features, splits them into a coarse part and a remainder side by side in one
  scratch, and the scale that undoes both scalings in the other; every point multiplies its block by the first scratch
  and scales by the second.
-/
module

public import proofs.«01_k».proof.Proof.Common
public import Idealize.ShloMosaic.Lib.VecWindow
public import Idealize.ShloMosaic.Lib.Tactic

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What a load of a whole buffer reads after a list of stores over it: the contents those stores leave. -/
theorem readCov_whole {κ : Kind} {sp : Space} {S : Shape} {e : EltTy} (v : View sig κ sp S e) (L : List (View.Piece (Elt F) S e))
    {off : Fin S.rank → ℕ} (inb : ∀ a, off a + S.size a ≤ S.size a) :
    v.readCov L (Rect.unit off S.size inb).toLoadRect = View.canon L := by
  rw [View.readCov_eq_canon']
  funext j
  exact congrArg (View.canon L) (Rect.emb_unit_full inb j)

/-- The scratch after the first point: the coarse part in columns 0–31, the remainder in columns 32–63. -/
def parts (h : Vec F S10000x64 .f32) (w : Vec F S64x32 .f32) : Vec F S10000x64 .fp8e4m3 :=
  View.canon [⟨Rect.unit (s := S10000x64) ![0, 32] S10000x32.size inb_S10000x64_S10000x32_0_32, k1_pay6 h w⟩,
    ⟨Rect.unit (s := S10000x64) ![0, 0] S10000x32.size inb_S10000x64_S10000x32_0_0, k1_pay5 h w⟩]

/-- The scale that undoes both scalings, in its one cell. -/
def unscale (h : Vec F S10000x64 .f32) (w : Vec F S64x32 .f32) : Vec F S1x1 .f32 := fun _ => k1_pay7 h w

/-- The first grid point of pass 2: the two scratches are filled, and the block written from them. -/
theorem pass2_first (c : Dev nD) (i : grid1.Coords) (hi : isFirst (i 0).val)
    (M1 : Memref sig .tc .vmem S10000x64 .f32) (h1 : M1.IsWhole) (M2 : Memref sig .tc .vmem S64x32 .f32) (h2 : M2.IsWhole)
    (M3 : Memref sig .tc .vmem S1x32 .f32) (h3 : M3.IsWhole) (M4 : Memref sig .tc .vmem S1000x10000 .fp8e4m3) (h4 : M4.IsWhole)
    (M5 : Memref sig .tc .vmem S1000x32 .f32) (h5 : M5.IsWhole) (M6 : Memref sig .tc .vmem S10000x64 .fp8e4m3) (h6 : M6.IsWhole)
    (M7 : Memref sig .tc .smem S1x1 .f32) (h7 : M7.IsWhole)
    (h : Vec F S10000x64 .f32) (w : Vec F S64x32 .f32) (b : Vec F S1x32 .f32) (q : Vec F S1000x10000 .fp8e4m3)
    (y5 : Vec F S1000x32 .f32) (y6 : Vec F S10000x64 .fp8e4m3) (y7 : Vec F S1x1 .f32)
    (E : Set ℕ) (Q : PUnit → sProp 𝕄) :
    iprop(own c M1 h ∗ own c M2 w ∗ own c M3 b ∗ own c M4 q ∗ own c M5 y5 ∗ own c M6 y6 ∗ own c M7 y7
      ∗ (iprop(own c M1 h ∗ own c M2 w ∗ own c M3 b ∗ own c M4 q ∗ own c M5 (k1_pay8 q (parts h w) (k1_pay7 h w) b) ∗ own c M6 (parts h w) ∗ own c M7 (unscale h w)) -∗ Q ⟨⟩))
      ⊢ wp frame (wpE (defs₀ (F := F)) 𝒱₀ c none) E (cc1__pass2_kernel i M1 h1 M2 h2 M3 h3 M4 h4 M5 h5 M6 h6 M7 h7) Q := by
  simp only [own_eq c h1, own_eq c h2, own_eq c h3, own_eq c h4, own_eq c h5, own_eq c h6, own_eq c h7]
  rw [cc1__pass2_kernel_eq_skeleton]
  iintro ⟨⟨%f1, %e1, H1⟩, ⟨%f2, %e2, H2⟩, ⟨%f3, %e3, H3⟩, ⟨%f4, %e4, H4⟩, ⟨%f5, -, H5⟩, ⟨%f6, -, H6⟩, ⟨%f7, -, H7⟩, Hk⟩
  subst e1 e2 e3 e4
  unfold cc1__pass2_kernel_skel
  sl_exec! (disch := sl_exact hi)
  sl_step
  iapply Hk
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists _; isplitr; swap; (· iexact H5); ipureintro; unfold pass2_first.sl.H5_1 pass2_first.sl.v5 pass2_first.sl.H6_2 pass2_first.sl.r_1; rw [View.read_writes_full, readCov_whole]; unfold parts; repeat rw [View.readAt_full]
  isplitl [H6]; · iexists _; isplitr; swap; (· iexact H6); ipureintro; unfold pass2_first.sl.H6_2; rw [View.read_writes_junk_eq_canon]; unfold parts; repeat rw [View.readAt_full]
  iexists _; isplitr; swap; (· iexact H7); ipureintro; unfold pass2_first.sl.H7_1; rw [View.read_writes_full]; unfold unscale; repeat rw [View.readAt_full]
  rfl

/-- Every later grid point of pass 2: the scratches are read and kept. -/
theorem pass2_next (c : Dev nD) (i : grid1.Coords) (hi : ¬ isFirst (i 0).val)
    (M1 : Memref sig .tc .vmem S10000x64 .f32) (h1 : M1.IsWhole) (M2 : Memref sig .tc .vmem S64x32 .f32) (h2 : M2.IsWhole)
    (M3 : Memref sig .tc .vmem S1x32 .f32) (h3 : M3.IsWhole) (M4 : Memref sig .tc .vmem S1000x10000 .fp8e4m3) (h4 : M4.IsWhole)
    (M5 : Memref sig .tc .vmem S1000x32 .f32) (h5 : M5.IsWhole) (M6 : Memref sig .tc .vmem S10000x64 .fp8e4m3) (h6 : M6.IsWhole)
    (M7 : Memref sig .tc .smem S1x1 .f32) (h7 : M7.IsWhole)
    (h : Vec F S10000x64 .f32) (w : Vec F S64x32 .f32) (b : Vec F S1x32 .f32) (q : Vec F S1000x10000 .fp8e4m3)
    (y5 : Vec F S1000x32 .f32) (y6 : Vec F S10000x64 .fp8e4m3) (z : Elt F .f32)
    (E : Set ℕ) (Q : PUnit → sProp 𝕄) :
    iprop(own c M1 h ∗ own c M2 w ∗ own c M3 b ∗ own c M4 q ∗ own c M5 y5 ∗ own c M6 y6 ∗ own c M7 (fun _ => z)
      ∗ (iprop(own c M1 h ∗ own c M2 w ∗ own c M3 b ∗ own c M4 q ∗ own c M5 (k1_pay8 q y6 z b) ∗ own c M6 y6 ∗ own c M7 (fun _ => z)) -∗ Q ⟨⟩))
      ⊢ wp frame (wpE (defs₀ (F := F)) 𝒱₀ c none) E (cc1__pass2_kernel i M1 h1 M2 h2 M3 h3 M4 h4 M5 h5 M6 h6 M7 h7) Q := by
  simp only [own_eq c h1, own_eq c h2, own_eq c h3, own_eq c h4, own_eq c h5, own_eq c h6, own_eq c h7]
  rw [cc1__pass2_kernel_eq_skeleton]
  iintro ⟨⟨%f1, %e1, H1⟩, ⟨%f2, %e2, H2⟩, ⟨%f3, %e3, H3⟩, ⟨%f4, %e4, H4⟩, ⟨%f5, -, H5⟩, ⟨%f6, %e6, H6⟩, ⟨%f7, %e7, H7⟩, Hk⟩
  subst e1 e2 e3 e4 e6
  unfold cc1__pass2_kernel_skel
  sl_exec! (disch := sl_exact hi)
  sl_step
  iapply Hk
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]
  · iexists _; isplitr; swap; (· iexact H5)
    ipureintro; unfold pass2_next.sl.H5_1 pass2_next.sl.r; rw [View.read_writes_full]; repeat rw [View.readAt_full]
    rw [e7]
  isplitl [H6]; · iexists f6; isplitr; swap; (· iexact H6); ipureintro; rfl
  iexists f7; isplitr; swap; (· iexact H7); ipureintro; exact e7

end Cert.Proof

end
-- ==== Proof.Pass2.lean ====
/-
  Pass 2 as a pipeline region: the contents its windows and its two scratches hold at every grid point, the proof that the
  kernel body keeps to them, and the region entered from any contents `V` of the unscoped buffers.
-/
module

public import proofs.«01_k».proof.Proof.Pass2Body
public import proofs.«01_k».proof.Proof.Gen.KernelIdeal.Points
public import proofs.«01_k».proof.Proof.Gen.KernelIdeal.Regions
public import Idealize.ShloMosaic.Lib.Pipeline.ValueKit

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Pass2

variable (V : (c : Dev nD) → (b : Ref sig .tc) → Buf (Elt F) ((c : Thread nD τ).loc b))

/-- The block of the scaled adjacency grid point `t` reads: 1000 rows of the array. -/
def adjBlock (c : Dev nD) (t : Fin cfg1.N) : Vec F S1000x10000 .fp8e4m3 :=
  ((cfg1.win 3).blk t).view.read (Elt F) (V c main_v2_1)

/-- The two parts the first point leaves in the first scratch, and the scale in the second. -/
def rhs (c : Dev nD) : Vec F S10000x64 .fp8e4m3 := parts (V c main_v2_0 : Vec F S10000x64 .f32) (V c main_arg4 : Vec F S64x32 .f32)
def scale (c : Dev nD) : Elt F .f32 := k1_pay7 (V c main_v2_0 : Vec F S10000x64 .f32) (V c main_arg4 : Vec F S64x32 .f32)

/-- Window 0's one block is its whole array. -/
theorem whole0 (c : Dev nD) (t : Fin cfg1.N) : ((cfg1.win 0).blk t).view.read (Elt F) (V c main_v2_0) = V c main_v2_0 := by
  funext y
  show V c main_v2_0 ((win1_0.rect t).emb y) = V c main_v2_0 y
  exact congrArg (V c main_v2_0) (funext fun a => Fin.ext (win1_0.rect_emb_val_of_index_zero t a (by fin_cases a <;> rfl) y))

/-- Window 1's one block is its whole array. -/
theorem whole1 (c : Dev nD) (t : Fin cfg1.N) : ((cfg1.win 1).blk t).view.read (Elt F) (V c main_arg4) = V c main_arg4 := by
  funext y
  show V c main_arg4 ((win1_1.rect t).emb y) = V c main_arg4 y
  exact congrArg (V c main_arg4) (funext fun a => Fin.ext (win1_1.rect_emb_val_of_index_zero t a (by fin_cases a <;> rfl) y))

/-- Window 2's one block is its whole array. -/
theorem whole2 (c : Dev nD) (t : Fin cfg1.N) : ((cfg1.win 2).blk t).view.read (Elt F) (V c main_v1) = V c main_v1 := by
  funext y
  show V c main_v1 ((win1_2.rect t).emb y) = V c main_v1 y
  exact congrArg (V c main_v1) (funext fun a => Fin.ext (win1_2.rect_emb_val_of_index_zero t a (by fin_cases a <;> rfl) y))

/-- The scoped buffers this region neither stages nor uses: held at something. -/
def Others (c : Dev nD) : sProp 𝕄 :=
  iprop(anything c cc0_stg0_0 ∗ anything c cc0_stg1_0 ∗ anything c cc0_stg2_0 ∗ anything c cc0_stg3_0 ∗ anything c cc0_stg3_1
    ∗ anything c cc0_stg4_0 ∗ anything c cc0_stg4_1 ∗ anything c cc0_stg5_0 ∗ anything c cc0_stg5_1 ∗ anything c cc0_scratch0)

/-- Between grid points: past the first, the scratches hold the two parts and the scale. -/
def Inv (c : Dev nD) (n : Nat) : sProp 𝕄 :=
  iprop((∃ X, ⌜n ≠ 0 → X = rhs V c⌝ ∗ own c (Memref.whole cc1_scratch0) X)
    ∗ (∃ Y, ⌜n ≠ 0 → Y = fun _ => scale V c⌝ ∗ own c (Memref.whole cc1_scratch1) Y) ∗ Others c)

/-- The region's proof data, entered at the contents `V`. -/
def dat (c : Dev nD) : Dat τ (Elt F) Unit ℕ (UR sig nD τ) ℕ cfg1 c where
  A w := V c (Pipeline.arrRef spec1 w)
  after w t := match w with
    | ⟨0, _⟩ => V c main_v2_0
    | ⟨1, _⟩ => V c main_arg4
    | ⟨2, _⟩ => V c main_v1
    | ⟨3, _⟩ => adjBlock V c t
    | ⟨4, _⟩ => k1_pay8 (adjBlock V c t) (rhs V c) (scale V c) (V c main_v1 : Vec F S1x32 .f32)
  Φ t := Inv V c t.val
  q _ := fullShare
  owed _ := 0

theorem before0 (c : Dev nD) (t : Fin cfg1.N) (d) : (dat V c).before 0 t d = V c main_v2_0 :=
  ((dat V c).before_in_eq_fetched 0 rfl (fun _ => rfl) (fun _ _ _ => rfl) (fun t => (whole0 V c t).symm) t d).trans (whole0 V c t)
theorem before1 (c : Dev nD) (t : Fin cfg1.N) (d) : (dat V c).before 1 t d = V c main_arg4 :=
  ((dat V c).before_in_eq_fetched 1 rfl (fun _ => rfl) (fun _ _ _ => rfl) (fun t => (whole1 V c t).symm) t d).trans (whole1 V c t)
theorem before2 (c : Dev nD) (t : Fin cfg1.N) (d) : (dat V c).before 2 t d = V c main_v1 :=
  ((dat V c).before_in_eq_fetched 2 rfl (fun _ => rfl) (fun _ _ _ => rfl) (fun t => (whole2 V c t).symm) t d).trans (whole2 V c t)
theorem before3 (c : Dev nD) (t : Fin cfg1.N) (d) : (dat V c).before 3 t d = adjBlock V c t :=
  (dat V c).before_in_eq_fetched 3 rfl (fun _ => rfl) (fun _ _ _ => rfl) (fun _ => rfl) t d

/-- The grid has one axis: a point's coordinate is its number. -/
theorem coord : ∀ t : Fin grid1.N, (grid1.coords t 0).val = t.val := by decide +kernel

theorem first_iff (t : Fin grid1.N) : isFirst (grid1.coords t 0).val ↔ t.val = 0 := by
  rw [coord]
  have h : t.val < 10 := Nat.lt_of_lt_of_eq t.isLt N_1
  exact isFirst_iff ⟨t.val, by omega⟩

/-- The kernel body keeps to the proof data at every grid point. -/
theorem body_obligation (c : Dev nD) : BodyObligation (dat V c) (defs₀ (F := F)) 𝒱₀ () Set.univ := fun t => by
  rw [bigSep_W1, bigSep_W1]
  rw [show (dat V c).Φ t.castSucc = Inv V c t.val from rfl, show (dat V c).Φ t.succ = Inv V c (t.val + 1) from rfl,
    show (dat V c).owesAt () t.succ = (dat V c).owesAt () t.castSucc from rfl]
  have hrow : defs₀ (F := F) .tc cfg1.body (cfg1.bodyArgs t (cfg1.slots t)) = bodyAt1 t := by
    unfold defs₀; rw [Defs.onTc_tc]
  rw [hrow]
  simp only [before0, before1, before2, before3]
  unfold Inv
  iintro ⟨⟨⟨%X, %hX, HS⟩, ⟨%Y, %hY, HT⟩, HO⟩, Howes, ⟨%d0, H0⟩, ⟨%d1, H1⟩, ⟨%d2, H2⟩, ⟨%d3, H3⟩, ⟨%d4, H4⟩⟩
  by_cases h0 : t.val = 0
  · iapply (pass2_first c (grid1.coords t) ((first_iff t).mpr h0) (st1_0 t) _ (st1_1 t) _ (st1_2 t) _ (st1_3 t) _ (st1_4 t) _ (Memref.whole cc1_scratch0) _ (Memref.whole cc1_scratch1) _
      (V c main_v2_0) (V c main_arg4) (V c main_v1) (adjBlock V c t) _ X Y Set.univ _)
    isplitl [H0]; · iexact H0
    isplitl [H1]; · iexact H1
    isplitl [H2]; · iexact H2
    isplitl [H3]; · iexact H3
    isplitl [H4]; · iexact H4
    isplitl [HS]; · iexact HS
    isplitl [HT]; · iexact HT
    iintro ⟨H0, H1, H2, H3, H4, HS, HT⟩
    isplitl [HS HT HO]
    · isplitl [HS]
      · iexists _; isplitr; swap; (· iexact HS); ipureintro; exact fun _ => rfl
      isplitl [HT]
      · iexists _; isplitr; swap; (· iexact HT); ipureintro; exact fun _ => rfl
      iexact HO
    isplitl [Howes]; · iexact Howes
    isplitl [H0]; · iexact H0
    isplitl [H1]; · iexact H1
    isplitl [H2]; · iexact H2
    isplitl [H3]; · iexact H3
    iexact H4
  · obtain rfl := hX h0
    obtain rfl := hY h0
    iapply (pass2_next c (grid1.coords t) (fun h => h0 ((first_iff t).mp h)) (st1_0 t) _ (st1_1 t) _ (st1_2 t) _ (st1_3 t) _ (st1_4 t) _ (Memref.whole cc1_scratch0) _ (Memref.whole cc1_scratch1) _
      (V c main_v2_0) (V c main_arg4) (V c main_v1) (adjBlock V c t) _ (rhs V c) (scale V c) Set.univ _)
    isplitl [H0]; · iexact H0
    isplitl [H1]; · iexact H1
    isplitl [H2]; · iexact H2
    isplitl [H3]; · iexact H3
    isplitl [H4]; · iexact H4
    isplitl [HS]; · iexact HS
    isplitl [HT]; · iexact HT
    iintro ⟨H0, H1, H2, H3, H4, HS, HT⟩
    isplitl [HS HT HO]
    · isplitl [HS]
      · iexists _; isplitr; swap; (· iexact HS); ipureintro; exact fun _ => rfl
      isplitl [HT]
      · iexists _; isplitr; swap; (· iexact HT); ipureintro; exact fun _ => rfl
      iexact HO
    isplitl [Howes]; · iexact Howes
    isplitl [H0]; · iexact H0
    isplitl [H1]; · iexact H1
    isplitl [H2]; · iexact H2
    isplitl [H3]; · iexact H3
    iexact H4

end Pass2

end Cert.Proof

end
-- ==== Proof.Run.lean ====
/-
  The whole kernel, run: the host reshapes, then pass 1, then pass 2. Every weakly fair execution ends with the result
  array at what pass 2's write-backs leave, with every argument as launched, and with every semaphore at zero.
-/
module

public import proofs.«01_k».proof.Proof.Pass1
public import proofs.«01_k».proof.Proof.Pass2

@[expose] public section

set_option maxRecDepth 16384

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg RegionSeg)

variable {F : FTy → Type} [FloatOps F]

local notation "𝕄" => MT nD τ sig Unit (Elt F) ℕ (UR sig nD τ) ℕ

/-- A valuation read at the TensorCore's references. -/
abbrev atRefs (W : (c : Dev nD) → Valuation τ sig (Elt F)) (c : Dev nD) (b : Ref sig .tc) : Buf (Elt F) ((c : Thread nD τ).loc b) := W c b

variable (m : (ℓ : Loc nD τ sig) → Buf (Elt F) ℓ)

/-- What pass 1 leaves in its two results: the hidden layer and the scaled adjacency. -/
def hiddenOut (c : Dev nD) : Buf (Elt F) ((c : Thread nD τ).loc main_v2_0) := (Pass1.dat (atRefs (V1 m)) c).arrAt 4 cfg0.N
def scaledOut (c : Dev nD) : Buf (Elt F) ((c : Thread nD τ).loc main_v2_1) := (Pass1.dat (atRefs (V1 m)) c).arrAt 5 cfg0.N

/-- The unscoped buffers after pass 1. -/
def W2 (c : Dev nD) : Valuation τ sig (Elt F) :=
  Function.update (Function.update (V1 m c) main_v2_0 (hiddenOut m c)) main_v2_1 (scaledOut m c)

/-- What pass 2 leaves in the result. -/
def resultOut (c : Dev nD) : Buf (Elt F) ((c : Thread nD τ).loc main_v3) := (Pass2.dat (atRefs (W2 m)) c).arrAt 4 cfg1.N

/-- The unscoped buffers after pass 2. -/
def W3 (c : Dev nD) : Valuation τ sig (Elt F) := Function.update (W2 m c) main_v3 (resultOut m c)

theorem W2_of (c : Dev nD) (r : Ref sig .tc) (h0 : r ≠ main_v2_0) (h1 : r ≠ main_v2_1) : W2 m c r = V1 m c r := by
  unfold W2
  rw [Function.update_of_ne (StableHlo.devRef_ne_of_ne h1), Function.update_of_ne (StableHlo.devRef_ne_of_ne h0)]
theorem W2_hidden (c : Dev nD) : W2 m c main_v2_0 = hiddenOut m c := by
  unfold W2
  rw [Function.update_of_ne (StableHlo.devRef_ne_of_ne (by decide)), Function.update_self]
theorem W2_scaled (c : Dev nD) : W2 m c main_v2_1 = scaledOut m c := by
  unfold W2; rw [Function.update_self]
theorem W3_of (c : Dev nD) (r : Ref sig .tc) (h : r ≠ main_v3) : W3 m c r = W2 m c r := by
  unfold W3; rw [Function.update_of_ne (StableHlo.devRef_ne_of_ne h)]
theorem W3_result (c : Dev nD) : W3 m c main_v3 = resultOut m c := by
  unfold W3; rw [Function.update_self]

/-- A buffer neither the reshapes nor a pass writes ends as launched. -/
theorem W3_kept (c : Dev nD) (r : Ref sig .tc) (h : r ≠ main_v3) (h0 : r ≠ main_v2_0) (h1 : r ≠ main_v2_1) (hh : r ∉ hostOps0_W) :
    W3 m c r = m ((c : Thread nD τ).loc r) :=
  (W3_of m c r h).trans ((W2_of m c r h0 h1).trans ((V1_of m c r hh).trans rfl))

/-- No core owes another anything: no level is assigned. -/
abbrev L : GSem nD τ sig → Finset Unit := fun _ => ∅
abbrev lv : GSem nD τ sig → Unit → ℕ := fun _ _ => 0

/-- The two passes' proof data, each entered where the one before left the buffers. -/
def pdats : (p : Fin 2) → (c : Dev nD) → Dat τ (Elt F) Unit ℕ (UR sig nD τ) ℕ (cfgs p) c
  | ⟨0, _⟩ => fun c => Pass1.dat (atRefs (V1 m)) c
  | ⟨1, _⟩ => fun c => Pass2.dat (atRefs (W2 m)) c

/-- What rides along beside the buffers: the core owes nothing. -/
abbrev Rest (c : Dev nD) : sProp 𝕄 := iprop(∃ W, owes (c : Thread nD τ) (0 : CellTallies nD τ sig Unit) W)

/-- Pass 1's invariant is entered from the scoped buffers it does not stage, whatever they hold; -/
theorem Pass1.enter (V : (c : Dev nD) → (b : Ref sig .tc) → Buf (Elt F) ((c : Thread nD τ).loc b)) (c : Dev nD) :
    (Pipeline.scopedRest (Ix := Unit) (Name := ℕ) (U := UR sig nD τ) (Lvl := ℕ) (Val := Elt F) spec0 c : sProp 𝕄) ⊢ Pass1.Inv V c 0 := by
  rw [scopedRest0_eq]
  unfold Pass1.Inv Pass1.Others
  iintro ⟨⟨%f, H⟩, Hr⟩
  isplitl [H]
  · iexists f; isplitr; · ipureintro; exact fun h => absurd rfl h
    iapply (Idealize.SL.BI.BIBase.Entails.of_eq (own_whole c cc0_scratch0 f).symm); iexact H
  iexact Hr

/-- and gives them back at its end. -/
theorem Pass1.leave (V : (c : Dev nD) → (b : Ref sig .tc) → Buf (Elt F) ((c : Thread nD τ).loc b)) (c : Dev nD) (n : Nat) :
    Pass1.Inv V c n ⊢ (Pipeline.scopedRest (Ix := Unit) (Name := ℕ) (U := UR sig nD τ) (Lvl := ℕ) (Val := Elt F) spec0 c : sProp 𝕄) := by
  rw [scopedRest0_eq]
  unfold Pass1.Inv Pass1.Others
  iintro ⟨⟨%f, -, H⟩, Hr⟩
  isplitl [H]
  · iexists f; iapply (Idealize.SL.BI.BIBase.Entails.of_eq (own_whole c cc0_scratch0 f)); iexact H
  iexact Hr

set_option backward.isDefEq.respectTransparency.types false in
/-- Pass 1's region: its arrays are taken out of the unscoped buffers, and put back as its write-backs leave them. -/
def region0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Pass1.body_obligation (atRefs (V1 m)) c).loose
  hwaits := Pipeline.hwaits_of_owed_zero _ _ _ _ L lv 0 fun _ _ => rfl
  pre c := iprop(unscopedBufs c (atRefs (V1 m) c) ∗ Rest c)
  post c := iprop(unscopedBufs c (atRefs (W2 m) c) ∗ Rest c)
  X _ := BI.emp
  Y _ := BI.emp
  Z c := Pipeline.unscopedRest (Ix := Unit) (Name := ℕ) (U := UR sig nD τ) (Lvl := ℕ) spec0 c (atRefs (V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V1 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pass1.Inv (atRefs (V1 m)) c 0 from rfl]
    iintro ⟨-, -, Hr⟩
    iapply (Pass1.enter (atRefs (V1 m)) c)
    iexact Hr
  hout c := by
    rw [Pipeline.ownSems0_none, show (pdats m 0 c).Φ (Fin.last _) = Pass1.Inv (atRefs (V1 m)) c cfg0.N from rfl]
    iintro HI
    isplitr; · iempintro
    isplitr; · iempintro
    iapply (Pass1.leave (atRefs (V1 m)) c cfg0.N)
    iexact HI
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (atRefs (V1 m) c) (atRefs (W2 m) c) ((pdats m 0 c).arrAt · cfg0.N)
      (fun w => by
        fin_cases w
        · exact ((pdats m 0 c).arrAt_in 0 rfl _).trans (W2_of m c main_arg0 (by decide) (by decide)).symm
        · exact ((pdats m 0 c).arrAt_in 1 rfl _).trans (W2_of m c main_arg2 (by decide) (by decide)).symm
        · exact ((pdats m 0 c).arrAt_in 2 rfl _).trans (W2_of m c main_v0 (by decide) (by decide)).symm
        · exact ((pdats m 0 c).arrAt_in 3 rfl _).trans (W2_of m c main_arg1 (by decide) (by decide)).symm
        · exact (W2_hidden m c).symm
        · exact (W2_scaled m c).symm)
      (fun b hb => W2_of m c b (fun h => hb (h ▸ Finset.mem_image.mpr ⟨4, Finset.mem_univ _, rfl⟩))
        (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- Pass 2's invariant is entered from the scoped buffers it does not stage, whatever they hold; -/
theorem Pass2.enter (V : (c : Dev nD) → (b : Ref sig .tc) → Buf (Elt F) ((c : Thread nD τ).loc b)) (c : Dev nD) :
    (Pipeline.scopedRest (Ix := Unit) (Name := ℕ) (U := UR sig nD τ) (Lvl := ℕ) (Val := Elt F) spec1 c : sProp 𝕄) ⊢ Pass2.Inv V c 0 := by
  rw [scopedRest1_eq]
  unfold Pass2.Inv Pass2.Others
  iintro ⟨A1, A2, A3, A4, A5, A6, A7, A8, A9, A10, ⟨%f, HS⟩, ⟨%g, HT⟩⟩
  isplitl [HS]
  · iexists f; isplitr; · ipureintro; exact fun h => absurd rfl h
    iapply (Idealize.SL.BI.BIBase.Entails.of_eq (own_whole c cc1_scratch0 f).symm); iexact HS
  isplitl [HT]
  · iexists g; isplitr; · ipureintro; exact fun h => absurd rfl h
    iapply (Idealize.SL.BI.BIBase.Entails.of_eq (own_whole c cc1_scratch1 g).symm); iexact HT
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  iexact A10

/-- and gives them back at its end. -/
theorem Pass2.leave (V : (c : Dev nD) → (b : Ref sig .tc) → Buf (Elt F) ((c : Thread nD τ).loc b)) (c : Dev nD) (n : Nat) :
    Pass2.Inv V c n ⊢ (Pipeline.scopedRest (Ix := Unit) (Name := ℕ) (U := UR sig nD τ) (Lvl := ℕ) (Val := Elt F) spec1 c : sProp 𝕄) := by
  rw [scopedRest1_eq]
  unfold Pass2.Inv Pass2.Others
  iintro ⟨⟨%f, -, HS⟩, ⟨%g, -, HT⟩, A1, A2, A3, A4, A5, A6, A7, A8, A9, A10⟩
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [HS]
  · iexists f; iapply (Idealize.SL.BI.BIBase.Entails.of_eq (own_whole c cc1_scratch0 f)); iexact HS
  iexists g; iapply (Idealize.SL.BI.BIBase.Entails.of_eq (own_whole c cc1_scratch1 g)); iexact HT

set_option backward.isDefEq.respectTransparency.types false in
/-- Pass 2's region, likewise. -/
def region1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Pass2.body_obligation (atRefs (W2 m)) c).loose
  hwaits := Pipeline.hwaits_of_owed_zero _ _ _ _ L lv 1 fun _ _ => rfl
  pre c := iprop(unscopedBufs c (atRefs (W2 m) c) ∗ Rest c)
  post c := iprop(unscopedBufs c (atRefs (W3 m) c) ∗ Rest c)
  X _ := BI.emp
  Y _ := BI.emp
  Z c := Pipeline.unscopedRest (Ix := Unit) (Name := ℕ) (U := UR sig nD τ) (Lvl := ℕ) spec1 c (atRefs (W2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (W2 m) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pass2.Inv (atRefs (W2 m)) c 0 from rfl]
    iintro ⟨-, -, Hr⟩
    iapply (Pass2.enter (atRefs (W2 m)) c)
    iexact Hr
  hout c := by
    rw [Pipeline.ownSems0_none, show (pdats m 1 c).Φ (Fin.last _) = Pass2.Inv (atRefs (W2 m)) c cfg1.N from rfl]
    iintro HI
    isplitr; · iempintro
    isplitr; · iempintro
    iapply (Pass2.leave (atRefs (W2 m)) c cfg1.N)
    iexact HI
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (atRefs (W2 m) c) (atRefs (W3 m) c) ((pdats m 1 c).arrAt · cfg1.N)
      (fun w => by
        fin_cases w
        · exact ((pdats m 1 c).arrAt_in 0 rfl _).trans (W3_of m c main_v2_0 (by decide)).symm
        · exact ((pdats m 1 c).arrAt_in 1 rfl _).trans (W3_of m c main_arg4 (by decide)).symm
        · exact ((pdats m 1 c).arrAt_in 2 rfl _).trans (W3_of m c main_v1 (by decide)).symm
        · exact ((pdats m 1 c).arrAt_in 3 rfl _).trans (W3_of m c main_v2_1 (by decide)).symm
        · exact (W3_result m c).symm)
      (fun b hb => W3_of m c b (fun h => hb (h ▸ Finset.mem_image.mpr ⟨4, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The same rides along before, between and after the two passes. -/
abbrev E : Fin 3 → Dev nD → sProp 𝕄 := fun _ => Rest

set_option backward.isDefEq.respectTransparency.types false in
/-- THE RUN: from any memory with zero counters, the result array ends at `resultOut`, each argument as launched,
    every counter at zero. -/
theorem run (g : Dev nD → PrngReg) :
    θ_run defs (onTc (τ := τ) (main (F := F))) ⟨m, fun _ => 0, g⟩ (fun r => (∀ c : Dev nD,
      r.2.mem ((c.tc : Thread nD τ).loc main_v3) = resultOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  refine Pipeline.θ_run_regions_kit_dev_sems (pcfgs (F := F)) adm (pdats m) () cellOf_inj (emb₁ : Emb (URounds (GSem nD τ sig) Unit) 𝕄) defs₀ 𝒱₀ L lv m g main
    (segs m 𝒱₀ L lv E () (pdats m) (region0 m) (region1 m))
    (fun c Q => by
      rewrite [main_chain c, Seg.run_eq_chain,
        show (segs m 𝒱₀ L lv E () (pdats m) (region0 m) (region1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ Rest c))
    (Tₙ := fun c => StableHlo.held (c : Thread nD τ) (Pipeline.ucRefs τ sig) (W3 m c))
    (hch := fun c => ⟨.rfl, ?_, .rfl, ?_⟩)
    (hinit := ?_) (QY := fun c s => s.mem ((c.tc : Thread nD τ).loc main_v3) = resultOut m c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h hz => ⟨h, funext fun g => hz g (.inr (regions_no_unscoped g.2))⟩)
  · -- the launch's own resources
    iintro Hu
    imodintro
    isplitl [Hu]
    · iapply (show (ownU _ : sProp 𝕄) ⊢ BI.own ((emb₁ : Emb (URounds (GSem nD τ sig) Unit) 𝕄) (initOf (Pipeline.cells cfgs cellOf_inj) (Pipeline.launchToks cfgs cellOf_inj))) from .rfl)
      iexact Hu
    iapply (show (BI.emp : sProp 𝕄) ⊢ bigSep Finset.univ (fun _ : Dev nD => BI.emp) from by rw [BI.bigSep_emp_const])
    iempintro
  · -- after the reshapes, pass 1 is entered
    show iprop(StableHlo.held (c : Thread nD τ) (Pipeline.ucRefs τ sig) (V1 m c) ∗ Rest c) ⊢ iprop(unscopedBufs c (atRefs (V1 m) c) ∗ Rest c)
    rw [← Pipeline.unscopedBufs_held (Ix := Unit) (Name := ℕ) (U := UR sig nD τ) (Lvl := ℕ) c (V1 m c)]
  · -- pass 2 is left at the last contents
    show iprop(unscopedBufs c (atRefs (W3 m) c) ∗ Rest c) ⊢ iprop(StableHlo.held (c : Thread nD τ) (Pipeline.ucRefs τ sig) (W3 m c) ∗ Rest c)
    rw [← Pipeline.unscopedBufs_held (Ix := Unit) (Name := ℕ) (U := UR sig nD τ) (Lvl := ℕ) c (W3 m c)]
  · -- the start: the unscoped buffers at their launch contents, nothing owed
    refine Pipeline.initEach L lv fun c => ?_
    rw [← Pipeline.unscopedBufs_held (Ix := Unit) (Name := ℕ) (U := UR sig nD τ) (Lvl := ℕ) c (V0 m c)]
    iintro ⟨⟨Hub, -, HO, -, -, -⟩, -⟩
    imodintro
    isplitl [Hub]; · iexact Hub
    iexists ∅; iexact HO
  · -- the end: each array read off the last contents
    unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      have at' (r : Ref sig .tc) (hr : (Proc.devRef .tc r : DevRef τ sig) ∈ Pipeline.ucRefs τ sig) :
          s'.mem.mem ((c.tc : Thread nD τ).loc r) = W3 m c r := h (Proc.devRef .tc r) hr
      have uc (r : Ref sig .tc) (hr : ¬ (Proc.devRef .tc r : DevRef τ sig).isScoped) : (Proc.devRef .tc r : DevRef τ sig) ∈ Pipeline.ucRefs τ sig :=
        Finset.mem_filter.mpr ⟨StableHlo.devRef_mem_tcRefs r, hr⟩
      exact ⟨(at' main_v3 (uc _ (by decide))).trans (W3_result m c),
        (at' main_arg0 (uc _ (by decide))).trans (W3_kept m c _ (by decide) (by decide) (by decide) (by decide)),
        (at' main_arg1 (uc _ (by decide))).trans (W3_kept m c _ (by decide) (by decide) (by decide) (by decide)),
        (at' main_arg2 (uc _ (by decide))).trans (W3_kept m c _ (by decide) (by decide) (by decide) (by decide)),
        (at' main_arg3 (uc _ (by decide))).trans (W3_kept m c _ (by decide) (by decide) (by decide) (by decide)),
        (at' main_arg4 (uc _ (by decide))).trans (W3_kept m c _ (by decide) (by decide) (by decide) (by decide)),
        (at' main_arg5 (uc _ (by decide))).trans (W3_kept m c _ (by decide) (by decide) (by decide) (by decide))⟩
    · iexact HSI

end Cert.Proof

end
-- ==== Proof.Printed.lean ====
/-
  The kernel over floating-point words and the kernel the value claims speak of are the same
  program, so the run proved of the one is a run of the other.
-/
module

public import proofs.«01_k».proof.Defs
public import proofs.«01_k».proof.Proof.Gen.Kernel
public import proofs.«01_k».proof.Proof.Run

@[expose] public section

noncomputable section

namespace Cert.Proof

open Idealize.ShloMosaic Idealize.SL.Sem

/-- The two bodies' tables agree: pass 1's and pass 2's body, row by row. -/
theorem table_eq : @Cert.Kernel.defs₀ Bits _ _ = @Cert.KernelIdeal.defs₀ Bits _ _ := by
  unfold Cert.Kernel.defs₀ Cert.KernelIdeal.defs₀
  refine congrArg Defs.onTc ?_
  funext l x
  match l with
  | ⟨0, _⟩ => rfl
  | ⟨1, _⟩ => rfl

theorem defs_eq : @Cert.Kernel.defs Bits _ _ = @Cert.KernelIdeal.defs Bits _ _ :=
  congrArg (Pipeline.defs (@Cert.KernelIdeal.pcfgs Bits _)) table_eq

theorem main_eq : Cert.Kernel.main (F := Bits) = Cert.KernelIdeal.main (F := Bits) := funext fun _ => rfl

/-- The run with the result forgotten: each argument as launched, every counter at zero. -/
theorem quiet {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run _ _ _).mono (fun _ h => ⟨fun c => (h.1 c).2, h.2⟩) (run m g)

/-- The frame of the kernel over floating-point words. -/
theorem printed_quiet : Cert.quiescent_Kernel := fun m g _ => by
  rw [defs_eq, main_eq]
  exact quiet m g

end Cert.Proof

end
-- ==== Proof.Mathematics.lean ====
/-
  The mathematics the claims speak of, over the extended reals: a product of two matrices, and one graph layer.
-/
module

public import Idealize.ShloMosaic.PureOps.Ideal.Laws
public import Idealize.ShloMosaic.Lib.ValueIdxCore

@[expose] public section

noncomputable section

namespace Cert.Proof

open Idealize.ShloMosaic Idealize.ShloMosaic.ValueIdx

/-- A matrix of extended reals. -/
abbrev Mat (M N : ℕ) : Type := (⟨2, ![M, N]⟩ : Shape).Idx → EReal

/-- A matrix of extended reals from its entries. -/
def mat {M N : ℕ} (f : Fin M → Fin N → EReal) : Mat M N := fun i => f (i 0) (i 1)

theorem mat_ix2 {M N : ℕ} (f : Fin M → Fin N → EReal) (i : Fin M) (j : Fin N) : mat f (ix2 i j) = f i j := rfl

/-- An index is its two coordinates. -/
theorem exists_ix2 {M N : ℕ} (y : (⟨2, ![M, N]⟩ : Shape).Idx) : ∃ (i : Fin M) (j : Fin N), y = ix2 i j := ⟨y 0, y 1, eq_ix2 y⟩

/-- Two matrices with the same entries are the same. -/
theorem mat_ext {M N : ℕ} {a b : Mat M N} (h : ∀ i j, a (ix2 i j) = b (ix2 i j)) : a = b := by
  funext i; rw [eq_ix2 i]; exact h _ _

/-- The product of two matrices. -/
def product {M K N : ℕ} (a : Mat M K) (b : Mat K N) : Mat M N := mat fun i j => ∑ k : Fin K, a (ix2 i k) * b (ix2 k j)

theorem product_ix2 {M K N : ℕ} (a : Mat M K) (b : Mat K N) (i : Fin M) (j : Fin N) :
    product a b (ix2 i j) = ∑ k : Fin K, a (ix2 i k) * b (ix2 k j) := rfl

/-- One layer before its activation: every node sums its neighbours' features, and the bias is added. -/
def layer {M K N : ℕ} (a : Mat M K) (h : Mat K N) (b : Fin N → EReal) : Mat M N := mat fun i j => product a h (ix2 i j) + b j

/-- The activation: the positive part of every entry. -/
def relu {M N : ℕ} (a : Mat M N) : Mat M N := mat fun i j => max (a (ix2 i j)) 0

/-- A row of a product depends on the one row of its left factor. -/
theorem product_row {M M' K N : ℕ} {a : Mat M K} {a' : Mat M' K} {i : Fin M} {r : Fin M'} (h : ∀ k, a (ix2 i k) = a' (ix2 r k))
    (b : Mat K N) (j : Fin N) : product a b (ix2 i j) = product a' b (ix2 r j) := by
  rw [product_ix2, product_ix2]
  exact Finset.sum_congr rfl fun k _ => by rw [h]

/-- So does a row of an activated layer. -/
theorem relu_layer_row {M M' K N : ℕ} {a : Mat M K} {a' : Mat M' K} {i : Fin M} {r : Fin M'} (h : ∀ k, a (ix2 i k) = a' (ix2 r k))
    (g : Mat K N) (b : Fin N → EReal) (j : Fin N) : relu (layer a g b) (ix2 i j) = relu (layer a' g b) (ix2 r j) := by
  unfold relu layer
  rw [mat_ix2, mat_ix2, mat_ix2, mat_ix2, product_row h]

/-- Both layers. -/
def network {n f g h : ℕ} (x : Mat n f) (a : Mat n n) (w1 : Mat f g) (b1 : Fin g → EReal) (w2 : Mat g h) (b2 : Fin h → EReal) : Mat n h :=
  layer a (product (relu (layer a (product x w1) b1)) w2) b2

end Cert.Proof

end
-- ==== Proof.Constants.lean ====
/-
  The kernel's literals, read as real numbers.
-/
module

public import Idealize.ShloMosaic.PureOps.Ideal.Laws

@[expose] public section

noncomputable section

namespace Cert.Proof

open Idealize.ShloMosaic

theorem lit_zero : Ideal.ofBits .f32 0x00000000#32 = 0 := by
  simp [Ideal.ofBits, Ideal.ieee, -EReal.coe_mul]

/-- The scale of the adjacency, 2²¹. -/
theorem lit_scale : Ideal.ofBits .f32 0x4A000000#32 = ((2097152 : ℝ) : EReal) := by
  simp [Ideal.ofBits, Ideal.ieee, -EReal.coe_mul]; norm_num

/-- The largest magnitude the scaled support is brought to. -/
theorem lit_reach : Ideal.ofBits .f32 0x43700000#32 = ((240 : ℝ) : EReal) := by
  simp [Ideal.ofBits, Ideal.ieee, -EReal.coe_mul]; norm_num

theorem lit_one : Ideal.ofBits .f32 0x3F800000#32 = ((1 : ℝ) : EReal) := by
  simp [Ideal.ofBits, Ideal.ieee, -EReal.coe_mul]; norm_num

theorem lit_sixteen : Ideal.ofBits .f32 0x41800000#32 = ((16 : ℝ) : EReal) := by
  simp [Ideal.ofBits, Ideal.ieee, -EReal.coe_mul]; norm_num

theorem lit_sixteenth : Ideal.ofBits .f32 0x3D800000#32 = ((1 / 16 : ℝ) : EReal) := by
  simp [Ideal.ofBits, Ideal.ieee, -EReal.coe_mul]; norm_num

/-- The least magnitude divided by: a positive number. -/
theorem lit_floor : ∃ r : ℝ, 0 < r ∧ Ideal.ofBits .f32 0x0DA24260#32 = (r : EReal) := by
  refine ⟨10633824 * (2 : ℝ) ^ (-123 : ℤ), by positivity, ?_⟩
  simp [Ideal.ofBits, Ideal.ieee, -EReal.coe_mul]

theorem lit_bottom : Ideal.ofBits .f32 0xFF800000#32 = ⊥ := by
  simp [Ideal.ofBits, Ideal.ieee]

theorem lit_top : Ideal.ofBits .f32 0x7F800000#32 = ⊤ := by
  simp [Ideal.ofBits, Ideal.ieee]

end Cert.Proof

end
-- ==== Proof.Reference.lean ====
/-
  The reference's result over the extended reals: both layers of the network, read off operation by operation.
-/
module

public import proofs.«01_k».proof.Proof.Mathematics
public import proofs.«01_k».proof.Proof.Constants
public import proofs.«01_k».proof.Proof.Gen.ReferenceIdeal.Read

@[expose] public section

noncomputable section

namespace Cert.Proof.Reference

open Cert.ReferenceIdeal Cert.ReferenceIdeal.Gen Cert.ReferenceIdeal.Read
open Idealize.ShloMosaic
open Idealize.ShloMosaic.ValueIdx Idealize.ShloMosaic.TcCoe

/-- A sum of products is an entry of a product once its two indices are read. -/
theorem product_of {M K N : ℕ} {a : Mat M K} {b : Mat K N} {i : Fin M} {j : Fin N} {L : Fin K → (⟨2, ![M, K]⟩ : Shape).Idx}
    {R : Fin K → (⟨2, ![K, N]⟩ : Shape).Idx} (hL : ∀ k, L k = ix2 i k) (hR : ∀ k, R k = ix2 k j) :
    ∑ k, a (L k) * b (R k) = product a b (ix2 i j) := by
  rw [product_ix2]
  exact Finset.sum_congr rfl fun k _ => by rw [hL, hR]

/-- Two indices with the same two coordinates are the same. -/
theorem idx2_ext {M N : ℕ} {y z : (⟨2, ![M, N]⟩ : Shape).Idx} (h0 : y 0 = z 0) (h1 : y 1 = z 1) : y = z :=
  funext fun a => by
    match a with
    | ⟨0, _⟩ => exact h0
    | ⟨1, _⟩ => exact h1

variable (x : Mat 10000 128) (a : Mat 10000 10000) (w1 : Mat 128 64) (b1 : (⟨1, ![64]⟩ : Shape).Idx → EReal) (w2 : Mat 64 32)
  (b2 : (⟨1, ![32]⟩ : Shape).Idx → EReal)

theorem features_eq : val_main_v0 (F := Ideal) x w1 = product x w1 := mat_ext (M := 10000) (N := 64) fun i j =>
  (val_main_v0_apply x w1 (ix2 i j)).trans (product_of (fun _ => idx2_ext rfl rfl) fun _ => idx2_ext rfl rfl)

theorem summed_eq : val_main_v1 (F := Ideal) x a w1 = product a (product x w1) := mat_ext (M := 10000) (N := 64) fun i j => by
  refine (val_main_v1_apply x a w1 (ix2 i j)).trans ?_
  rw [features_eq]
  exact product_of (fun _ => idx2_ext rfl rfl) fun _ => idx2_ext rfl rfl

theorem bias1_eq (i : Fin 10000) (j : Fin 64) : val_main_v3 (F := Ideal) b1 (ix2 i j) = b1 (ix1 j) :=
  (val_main_v3_apply (F := Ideal) b1 (ix2 i j)).trans ((val_main_v2_apply (F := Ideal) b1 _).trans
    (congrArg b1 (funext fun d => by match d with | ⟨0, _⟩ => rfl)))

theorem bias2_eq (i : Fin 10000) (j : Fin 32) : val_main_v9 (F := Ideal) b2 (ix2 i j) = b2 (ix1 j) :=
  (val_main_v9_apply (F := Ideal) b2 (ix2 i j)).trans ((val_main_v8_apply (F := Ideal) b2 _).trans
    (congrArg b2 (funext fun d => by match d with | ⟨0, _⟩ => rfl)))

theorem zeros_eq (i : (⟨2, ![10000, 64]⟩ : Shape).Idx) : val_main_call0_v0 (F := Ideal) i = (0 : EReal) :=
  (val_main_call0_v0_apply (F := Ideal) i).trans lit_zero

theorem hidden_eq : val_main_v5 (F := Ideal) x a w1 b1 = relu (layer a (product x w1) fun j => b1 (ix1 j)) :=
  mat_ext (M := 10000) (N := 64) fun i j => by
    refine (val_main_v5_apply (F := Ideal) x a w1 b1 (ix2 i j)).trans ?_
    rw [val_main_v4_apply, summed_eq, bias1_eq, zeros_eq]
    rfl

theorem support_eq : val_main_v6 (F := Ideal) x a w1 b1 w2 = product (relu (layer a (product x w1) fun j => b1 (ix1 j))) w2 :=
  mat_ext (M := 10000) (N := 32) fun i j => by
    refine (val_main_v6_apply x a w1 b1 w2 (ix2 i j)).trans ?_
    rw [hidden_eq]
    exact product_of (fun _ => idx2_ext rfl rfl) fun _ => idx2_ext rfl rfl

/-- The reference computes both layers. -/
theorem result_eq : val_main_v10 (F := Ideal) x a w1 b1 w2 b2 = network x a w1 (fun j => b1 (ix1 j)) w2 (fun j => b2 (ix1 j)) :=
  mat_ext (M := 10000) (N := 32) fun i j => by
    have h7 : val_main_v7 (F := Ideal) x a w1 b1 w2 (ix2 i j) = product a (product (relu (layer a (product x w1) fun j => b1 (ix1 j))) w2) (ix2 i j) := by
      refine (val_main_v7_apply x a w1 b1 w2 (ix2 i j)).trans ?_
      rw [support_eq]
      exact product_of (fun _ => idx2_ext rfl rfl) fun _ => idx2_ext rfl rfl
    refine (val_main_v10_apply (F := Ideal) x a w1 b1 w2 b2 (ix2 i j)).trans ?_
    rw [h7, bias2_eq]
    rfl

end Cert.Proof.Reference

end
-- ==== Proof.Finite.lean ====
/-
  Matrices all of whose entries are real numbers: products, layers and activations of such are such. And the one equation
  the kernel rests on: scaling both factors of a product up and the result down changes nothing over the reals.
-/
module

public import proofs.«01_k».proof.Proof.Mathematics

@[expose] public section

noncomputable section

namespace Cert.Proof

open Idealize.ShloMosaic Idealize.ShloMosaic.ValueIdx

/-- Every entry is a real number. -/
def AllReal {M N : ℕ} (a : Mat M N) : Prop := ∃ f : Fin M → Fin N → ℝ, ∀ i j, a (ix2 i j) = (f i j : EReal)

/-- A sum of real numbers, summed among the extended reals. -/
theorem coe_total {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem AllReal.product {M K N : ℕ} {a : Mat M K} {b : Mat K N} (ha : AllReal a) (hb : AllReal b) : AllReal (product a b) := by
  obtain ⟨f, hf⟩ := ha
  obtain ⟨g, hg⟩ := hb
  refine ⟨fun i j => ∑ k, f i k * g k j, fun i j => ?_⟩
  rw [product_ix2, coe_total]
  exact Finset.sum_congr rfl fun k _ => by rw [hf, hg, EReal.coe_mul]

theorem AllReal.layer {M K N : ℕ} {a : Mat M K} {h : Mat K N} {b : Fin N → EReal} (ha : AllReal a) (hh : AllReal h)
    (hb : ∃ r : Fin N → ℝ, ∀ j, b j = (r j : EReal)) : AllReal (layer a h b) := by
  obtain ⟨f, hf⟩ := ha.product hh
  obtain ⟨r, hr⟩ := hb
  refine ⟨fun i j => f i j + r j, fun i j => ?_⟩
  unfold Cert.Proof.layer
  rw [mat_ix2, hf, hr, EReal.coe_add]

theorem AllReal.relu {M N : ℕ} {a : Mat M N} (ha : AllReal a) : AllReal (relu a) := by
  obtain ⟨f, hf⟩ := ha
  refine ⟨fun i j => max (f i j) 0, fun i j => ?_⟩
  unfold Cert.Proof.relu
  rw [mat_ix2, hf]
  exact (EReal.coe_strictMono.monotone.map_max (a := f i j) (b := 0)).symm

/-- The left factor scaled by `u`, the right by `s`, a remainder of zero added in, and the sum scaled back. -/
theorem scaled_product {M K N : ℕ} {a : Mat M K} {p : Mat K N} (ha : AllReal a) (hp : AllReal p) (i : Fin M) (j : Fin N)
    (u s v : ℝ) (hu : u ≠ 0) (hs : s ≠ 0) :
    ((∑ k : Fin K, a (ix2 i k) * (u : EReal) * (p (ix2 k j) * (s : EReal))) + (∑ k : Fin K, a (ix2 i k) * (u : EReal) * 0) * (v : EReal))
      * ((1 / (s * u) : ℝ) : EReal) = product a p (ix2 i j) := by
  obtain ⟨f, hf⟩ := ha
  obtain ⟨g, hg⟩ := hp
  simp only [product_ix2, hf, hg, ← EReal.coe_mul, mul_zero, Finset.sum_const_zero, zero_mul, add_zero, ← coe_total]
  refine congrArg _ ?_
  rw [Finset.sum_mul]
  refine Finset.sum_congr rfl fun k _ => ?_
  field_simp

end Cert.Proof

end
-- ==== Proof.Pass1Value.lean ====
/-
  What pass 1 computes, over the extended reals: the feature product, and from a block of the adjacency the block of the
  hidden layer and the block scaled.
-/
module

public import proofs.«01_k».proof.Proof.Mathematics
public import proofs.«01_k».proof.Proof.Constants
public import proofs.«01_k».proof.Proof.Pass1
public import Idealize.ShloMosaic.Lib.MatmulPlain
public import Idealize.ShloMosaic.Lib.Pipeline.Value

@[expose] public section

set_option maxRecDepth 16384

noncomputable section

namespace Cert.Proof

open Cert.KernelIdeal Cert.KernelIdeal.Gen
open Idealize.ShloMosaic hiding ix2 eq_ix2
open Idealize.ShloMosaic.ValueIdx Idealize.ShloMosaic.TcCoe
open Idealize.ShloMosaic.Pipeline (Dat Cfg Window)

/-- A product into zeros, read at an entry. -/
theorem matmul_entry {M K N : ℕ} {φ₁ φ₂ : FTy} (l : FVec Ideal ⟨2, ![M, K]⟩ φ₁) (r : FVec Ideal ⟨2, ![K, N]⟩ φ₂) (i : Fin M) (j : Fin N) :
    FloatOps.matmul (DotDims.plain M K N) none l r (constant ⟨2, ![M, N]⟩ .f32 0x00000000#32) (ix2 i j) = product (M := M) (K := K) (N := N) l r (ix2 i j) := by
  rw [Ideal.matmul_plain_apply, show constant (F := Ideal) ⟨2, ![M, N]⟩ .f32 0x00000000#32 (ix2 i j) = 0 from lit_zero, zero_add]
  rfl

/-- A row of biases spread over the rows of a block, read at an entry. -/
theorem bias_entry {M N : ℕ} (hN : N ≠ 1) (b : FVec Ideal ⟨2, ![1, N]⟩ .f32) (h : (⟨2, ![1, N]⟩ : Shape).Broadcasts ⟨2, ![M, N]⟩) (i : Fin M) (j : Fin N) :
    broadcastTo ⟨2, ![M, N]⟩ b h (ix2 i j) = b (ix2 0 j) :=
  broadcastTo_apply b h (ix2 i j) (ix2 0 j) fun a => by
    match a with
    | ⟨0, _⟩ => rfl
    | ⟨1, _⟩ => exact (if_neg hN).symm

theorem k0_pay1_eq (x : Mat 10000 128) (w : Mat 128 64) : k0_pay1 (F := Ideal) x w = product x w := by
  refine mat_ext fun i j => ?_
  unfold k0_pay1
  simp only [shapeCast_self]
  exact matmul_entry (φ₁ := .f32) (φ₂ := .f32) x w i j

theorem k0_pay2_entry (a : Mat 400 10000) (i : (⟨2, ![400, 10000]⟩ : Shape).Idx) :
    k0_pay2 (F := Ideal) a i = a i * ((2097152 : ℝ) : EReal) :=
  congrArg (a i * ·) lit_scale

theorem k0_pay3_eq (a : Mat 400 10000) (g : Mat 10000 64) (b : Mat 1 64) :
    k0_pay3 (F := Ideal) a g b = relu (layer a g fun j => b (ix2 0 j)) := by
  refine mat_ext fun i j => ?_
  unfold k0_pay3
  simp only [shapeCast_self]
  show max ((FloatOps.matmul (F := Ideal) (φ₁ := .f32) (φ₂ := .f32) (DotDims.plain 400 10000 64) none a g (constant ⟨2, ![400, 64]⟩ .f32 0x00000000#32) (ix2 i j) : EReal) + broadcastTo S400x64 b _ (ix2 i j)) (Ideal.ofBits .f32 0x00000000#32) = _
  rw [matmul_entry (φ₁ := .f32) (φ₂ := .f32), bias_entry (by decide), lit_zero]
  rfl

namespace Pass1

variable (V : (c : Dev nD) → (b : Ref sig .tc) → Buf (Elt Ideal) ((c : Thread nD τ).loc b))

theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![t.val, 0] := by decide +kernel

/-- The arrays pass 1 reads, as matrices. -/
abbrev features (c : Dev nD) : Mat 10000 128 := V c main_arg0
abbrev adjacency (c : Dev nD) : Mat 10000 10000 := V c main_arg1
abbrev weights (c : Dev nD) : Mat 128 64 := V c main_arg2
abbrev bias (c : Dev nD) : Mat 1 64 := V c main_v0

/-- Row `i` of the block at grid point `t`, as a row of the array. -/
def row (t : Fin grid0.N) (i : Fin 400) : Fin 10000 :=
  ⟨t.val * 400 + i.val, by have h : t.val < 25 := Nat.lt_of_lt_of_eq t.isLt N_0; omega⟩

theorem emb3 (t : Fin grid0.N) (i : Fin 400) (j : Fin 10000) : (win0_3.rect t).emb (ix2 i j) = (ix2 (row t i) j : S10000x10000.Idx) := by
  funext a; apply Fin.ext
  rw [win0_3.rect_emb_val, index3]
  match a with
  | ⟨0, _⟩ => rfl
  | ⟨1, _⟩ => show 0 * 10000 + j.val = j.val; omega

theorem emb4 (t : Fin grid0.N) (i : Fin 400) (j : Fin 64) : (win0_4.rect t).emb (ix2 i j) = (ix2 (row t i) j : S10000x64.Idx) := by
  funext a; apply Fin.ext
  rw [win0_4.rect_emb_val, index4]
  match a with
  | ⟨0, _⟩ => rfl
  | ⟨1, _⟩ => show 0 * 64 + j.val = j.val; omega

theorem emb5 (t : Fin grid0.N) (i : Fin 400) (j : Fin 10000) : (win0_5.rect t).emb (ix2 i j) = (ix2 (row t i) j : S10000x10000.Idx) := by
  funext a; apply Fin.ext
  rw [win0_5.rect_emb_val, index5]
  match a with
  | ⟨0, _⟩ => rfl
  | ⟨1, _⟩ => show 0 * 10000 + j.val = j.val; omega

/-- The block read at grid point `t`, at an entry: the array's entry in that block's row. -/
theorem adjBlock_entry (c : Dev nD) (t : Fin grid0.N) (i : Fin 400) (k : Fin 10000) :
    (adjBlock V c t : Mat 400 10000) (ix2 i k) = (adjacency V c) (ix2 (row t i) k) :=
  congrArg (adjacency V c) (emb3 t i k)

/-- Pass 1's first result: the hidden layer. -/
theorem hidden_eq (c : Dev nD) :
    (dat V c).arrAt 4 cfg0.N = relu (layer (adjacency V c) (product (features V c) (weights V c))
      fun j => (bias V c) (ix2 0 j)) := by
  refine (dat V c).arrAt_eq_of_covers 4 _ (by decide +kernel) fun t hf y => ?_
  obtain ⟨i, j, rfl⟩ : ∃ (i : Fin 400) (j : Fin 64), y = (ix2 i j : S400x64.Idx) := ⟨y 0, y 1, eq_ix2 (n0 := 400) (n1 := 64) y⟩
  show k0_pay3 (adjBlock V c t) (feat V c) (V c main_v0 : Vec Ideal S1x64 .f32) (ix2 i j)
    = relu (layer _ _ _) ((win0_4.rect t).emb (ix2 i j))
  rw [emb4, show feat V c = product (features V c) (weights V c) from k0_pay1_eq _ _, k0_pay3_eq]
  exact relu_layer_row (adjBlock_entry V c t i) _ _ j

/-- Pass 1's second result: the adjacency scaled. -/
theorem scaled_eq (c : Dev nD) :
    (dat V c).arrAt 5 cfg0.N = (mat fun i j => (adjacency V c) (ix2 i j) * ((2097152 : ℝ) : EReal) : Mat 10000 10000) := by
  refine (dat V c).arrAt_eq_of_covers 5 _ (by decide +kernel) fun t hf y => ?_
  obtain ⟨i, j, rfl⟩ : ∃ (i : Fin 400) (j : Fin 10000), y = (ix2 i j : S400x10000.Idx) := ⟨y 0, y 1, eq_ix2 (n0 := 400) (n1 := 10000) y⟩
  show k0_pay2 (adjBlock V c t) (ix2 i j) = mat _ ((win0_5.rect t).emb (ix2 i j))
  rw [emb5, k0_pay2_entry, adjBlock_entry]
  rfl

end Pass1

end Cert.Proof

end
-- ==== Proof.Pass2Value.lean ====
/-
  What pass 2 computes, over the extended reals: the second layer's support, the scale taken from its largest magnitude,
  the two parts the scaled support is split into, and from a block of the scaled adjacency the block of the result.
-/
module

public import proofs.«01_k».proof.Proof.Finite
public import proofs.«01_k».proof.Proof.Pass1Value
public import proofs.«01_k».proof.Proof.Pass2

@[expose] public section

set_option maxRecDepth 16384

noncomputable section

namespace Cert.Proof

open Cert.KernelIdeal Cert.KernelIdeal.Gen
open Idealize.ShloMosaic hiding ix2 eq_ix2
open Idealize.ShloMosaic.ValueIdx Idealize.ShloMosaic.TcCoe
open Idealize.ShloMosaic.Pipeline (Dat Cfg Window)

theorem k1_pay1_eq (h : Mat 10000 64) (w : Mat 64 32) : k1_pay1 (F := Ideal) h w = product h w := by
  refine mat_ext fun i j => ?_
  unfold k1_pay1
  simp only [shapeCast_self]
  exact matmul_entry (φ₁ := .f32) (φ₂ := .f32) h w i j

/-- The largest of finite numbers is below infinity, whatever axes it is taken over. -/
theorem largest_lt_top {s t : Shape} {axes : List (Fin s.rank)} (v : FVec Ideal s .f32) (h : s.Reduces axes t) (hφ : FKind.Formats .f32)
    (hacc : 0xFF800000#32 = FKind.maximumf.neutral .f32 hφ) (j : t.Idx) (hv : ∀ y, v y < (⊤ : EReal)) :
    multiReduction .maximumf axes t v 0xFF800000#32 h hφ hacc j < (⊤ : EReal) := by
  rw [multiReduction_maximumf_eq_fold]
  refine (Finset.fold_max_lt _).mpr ⟨?_, fun x _ => hv x⟩
  rw [show FloatOps.ofBits (F := Ideal) .f32 0xFF800000#32 = ⊥ from lit_bottom]
  exact bot_lt_top

/-- Recasting numbers to another shape, or reading one of them, keeps them below infinity. -/
theorem shapeCast_lt_top {s t : Shape} (v : s.Idx → EReal) (h : s.ShapeCasts t) (hv : ∀ y, v y < ⊤) (j : t.Idx) : shapeCast t v h j < ⊤ := hv _
theorem extractAt_lt_top {s : Shape} (pos : Fin s.rank → ℕ) {v : s.Idx → EReal} (h : ∀ a, pos a < s.size a) (hv : ∀ y, v y < ⊤) :
    extractAt pos v h < ⊤ := hv _

/-- The scale taken from a largest magnitude below infinity is a positive real number. -/
theorem scale_real {M : EReal} (hM : M < ⊤) :
    ∃ s : ℝ, 0 < s ∧ Scalar.divf (F := Ideal) (φ := .f32) (Scalar.ofBits .f32 0x43700000#32) (Scalar.maximumf M (Scalar.ofBits .f32 0x0DA24260#32)) = (s : EReal) := by
  show ∃ s : ℝ, 0 < s ∧ Ideal.div (Ideal.ofBits .f32 0x43700000#32) (max M (Ideal.ofBits .f32 0x0DA24260#32)) = (s : EReal)
  obtain ⟨ε, hε, eε⟩ := lit_floor
  rw [eε, lit_reach]
  have hle : (ε : EReal) ≤ max M (ε : EReal) := le_max_right _ _
  have htop : max M (ε : EReal) < ⊤ := max_lt hM (EReal.coe_lt_top ε)
  generalize max M (ε : EReal) = d at hle htop
  have hbot : d ≠ ⊥ := fun e => by rw [e] at hle; exact absurd (le_bot_iff.mp hle) (EReal.coe_ne_bot ε)
  lift d to ℝ using ⟨htop.ne, hbot⟩
  have hd : 0 < d := lt_of_lt_of_le hε (EReal.coe_le_coe_iff.mp hle)
  refine ⟨240 * (1 / d), by positivity, ?_⟩
  rw [Ideal.div_coe hd.ne', EReal.coe_mul]

/-- The magnitude of a finite entry is below infinity. -/
theorem magnitude_lt_top {M N : ℕ} {p : Mat M N} (hp : AllReal p) (y : (⟨2, ![M, N]⟩ : Shape).Idx) : max (p y) (-(p y)) < ⊤ := by
  obtain ⟨f, hf⟩ := hp
  obtain ⟨i, j, rfl⟩ := exists_ix2 y
  rw [hf, ← EReal.coe_neg]
  exact max_lt (EReal.coe_lt_top _) (EReal.coe_lt_top _)

/-- The same of the magnitudes taken entry by entry. -/
theorem absf_lt_top {s : Shape} (v : FVec Ideal s .f32) (hv : ∀ y, max (v y) (-(v y)) < (⊤ : EReal)) (y : s.Idx) : absf v y < (⊤ : EReal) := hv y

/-- A finite support has a finite largest magnitude, so the scale is a positive real number. -/
theorem k1_pay2_real {h : Mat 10000 64} {w : Mat 64 32} (hp : AllReal (product h w)) :
    ∃ s : ℝ, 0 < s ∧ k1_pay2 (F := Ideal) h w = (s : EReal) := by
  unfold k1_pay2
  refine scale_real (extractAt_lt_top _ _ (shapeCast_lt_top _ _ fun j => largest_lt_top _ _ _ _ j (shapeCast_lt_top _ _ (absf_lt_top _ ?_))))
  rw [k1_pay1_eq]
  exact magnitude_lt_top hp

/-- The scaled support, and the scale undone, at a real scale. -/
theorem k1_pay5_entry {h : Mat 10000 64} {w : Mat 64 32} {s : ℝ} (hs : k1_pay2 (F := Ideal) h w = (s : EReal)) (i : Fin 10000) (j : Fin 32) :
    k1_pay5 (F := Ideal) h w (ix2 i j) = product h w (ix2 i j) * (s : EReal) := by
  unfold k1_pay5 k1_pay4 k1_pay3
  simp only [shapeCast_self, k1_pay1_eq, hs]
  rfl

theorem k1_pay6_entry {h : Mat 10000 64} {w : Mat 64 32} (hp : AllReal (product h w)) {s : ℝ} (hs : k1_pay2 (F := Ideal) h w = (s : EReal))
    (i : Fin 10000) (j : Fin 32) : k1_pay6 (F := Ideal) h w (ix2 i j) = (0 : EReal) := by
  obtain ⟨p, hp⟩ := hp
  unfold k1_pay6 k1_pay4 k1_pay3
  simp only [shapeCast_self, k1_pay1_eq, hs]
  show (product h w (ix2 i j) * (s : EReal) - product h w (ix2 i j) * (s : EReal)) * Ideal.ofBits .f32 0x41800000#32 = 0
  rw [hp, ← EReal.coe_mul, EReal.sub_self (EReal.coe_ne_top _) (EReal.coe_ne_bot _), zero_mul]

theorem k1_pay7_eq {h : Mat 10000 64} {w : Mat 64 32} {s : ℝ} (h0 : 0 < s) (hs : k1_pay2 (F := Ideal) h w = (s : EReal)) :
    k1_pay7 (F := Ideal) h w = ((1 / (s * 2097152) : ℝ) : EReal) := by
  unfold k1_pay7
  simp only [hs]
  show Ideal.div (Ideal.ofBits .f32 0x3F800000#32) ((s : EReal) * Ideal.ofBits .f32 0x4A000000#32) = _
  rw [lit_one, lit_scale, ← EReal.coe_mul, Ideal.div_coe (by positivity), ← EReal.coe_mul, one_mul]

/-- A column of the first part, and the column of the second part beside it. -/
abbrev left (j : Fin 32) : Fin 64 := ⟨j.val, by omega⟩
abbrev right (j : Fin 32) : Fin 64 := ⟨32 + j.val, by omega⟩

theorem parts_right (h : Mat 10000 64) (w : Mat 64 32) (i : Fin 10000) (j : Fin 32) :
    parts (F := Ideal) h w (ix2 i (right j)) = k1_pay6 (F := Ideal) h w (ix2 i j) := by
  unfold parts
  rw [show (ix2 i (right j) : S10000x64.Idx) = (Rect.unit (s := S10000x64) ![0, 32] S10000x32.size inb_S10000x64_S10000x32_0_32).emb (ix2 i j : S10000x32.Idx) from ?_]
  · exact View.canon_cons_emb _ _ _ _
  · funext a; apply Fin.ext
    match a with
    | ⟨0, _⟩ => show i.val = 0 + 1 * i.val; omega
    | ⟨1, _⟩ => show 32 + j.val = 32 + 1 * j.val; omega

theorem parts_left (h : Mat 10000 64) (w : Mat 64 32) (i : Fin 10000) (j : Fin 32) :
    parts (F := Ideal) h w (ix2 i (left j)) = k1_pay5 (F := Ideal) h w (ix2 i j) := by
  unfold parts
  rw [View.canon_cons_of_not_mem]
  · rw [show (ix2 i (left j) : S10000x64.Idx) = (Rect.unit (s := S10000x64) ![0, 0] S10000x32.size inb_S10000x64_S10000x32_0_0).emb (ix2 i j : S10000x32.Idx) from ?_]
    · exact View.canon_cons_emb _ _ _ _
    · funext a; apply Fin.ext
      match a with
      | ⟨0, _⟩ => show i.val = 0 + 1 * i.val; omega
      | ⟨1, _⟩ => show j.val = 0 + 1 * j.val; omega
  · rw [Rect.mem_set_unit]
    exact fun hm => absurd (hm 1).1 (by show ¬ 32 ≤ j.val; omega)

/-- A block of the result from any block and right-hand side: the two halves of the product joined, scaled, the bias added. -/
theorem k1_pay8_entry (q : Mat 1000 10000) (r : Mat 10000 64) (u : EReal) (b : Mat 1 32) (i : Fin 1000) (j : Fin 32) :
    k1_pay8 (F := Ideal) q r u b (ix2 i j)
      = (product q r (ix2 i (left j)) + product q r (ix2 i (right j)) * ((1 / 16 : ℝ) : EReal)) * u + b (ix2 0 j) := by
  unfold k1_pay8
  simp only [shapeCast_self]
  have hl : ∀ (x : Mat 1000 64), extractStridedSlice S1000x32 ![0, 0] x slices_S1000x64_o0_0_S1000x32 (ix2 i j) = x (ix2 i (left j)) := fun x =>
    extractStridedSlice_apply _ _ _ _ _ fun a => by
      match a with
      | ⟨0, _⟩ => show i.val = 0 + i.val; omega
      | ⟨1, _⟩ => show j.val = 0 + j.val; omega
  have hr : ∀ (x : Mat 1000 64), extractStridedSlice S1000x32 ![0, 32] x slices_S1000x64_o0_32_S1000x32 (ix2 i j) = x (ix2 i (right j)) := fun x =>
    extractStridedSlice_apply _ _ _ _ _ fun a => by
      match a with
      | ⟨0, _⟩ => show i.val = 0 + i.val; omega
      | ⟨1, _⟩ => rfl
  show (extractStridedSlice S1000x32 ![0, 0] (FloatOps.matmul (F := Ideal) (φ₁ := .fp8e4m3) (φ₂ := .fp8e4m3) (DotDims.plain 1000 10000 64) none q r (constant ⟨2, ![1000, 64]⟩ .f32 0x00000000#32) : Mat 1000 64) slices_S1000x64_o0_0_S1000x32 (ix2 i j)
    + extractStridedSlice S1000x32 ![0, 32] (FloatOps.matmul (F := Ideal) (φ₁ := .fp8e4m3) (φ₂ := .fp8e4m3) (DotDims.plain 1000 10000 64) none q r (constant ⟨2, ![1000, 64]⟩ .f32 0x00000000#32) : Mat 1000 64) slices_S1000x64_o0_32_S1000x32 (ix2 i j)
      * Ideal.ofBits .f32 0x3D800000#32) * u + broadcastTo S1000x32 b broadcasts_S1x32_S1000x32 (ix2 i j) = _
  rw [hl, hr, matmul_entry (φ₁ := .fp8e4m3) (φ₂ := .fp8e4m3), matmul_entry (φ₁ := .fp8e4m3) (φ₂ := .fp8e4m3), lit_sixteenth, bias_entry (by decide)]

end Cert.Proof

end
-- ==== Proof.Result.lean ====
/-
  The kernel's result array over the extended reals: with finite arguments it is both layers of the network.
-/
module

public import proofs.«01_k».proof.Proof.Pass2Value
public import proofs.«01_k».proof.Proof.Run

@[expose] public section

set_option maxRecDepth 16384

noncomputable section

namespace Cert.Proof

open Cert.KernelIdeal Cert.KernelIdeal.Gen
open Idealize.ShloMosaic hiding ix1 ix2 eq_ix2
open Idealize.ShloMosaic.ValueIdx Idealize.ShloMosaic.TcCoe
open Idealize.ShloMosaic.Pipeline (Dat Cfg Window)

namespace Pass2

variable (V : (c : Dev nD) → (b : Ref sig .tc) → Buf (Elt Ideal) ((c : Thread nD τ).loc b))

/-- The arrays pass 2 reads, as matrices. -/
abbrev hidden (c : Dev nD) : Mat 10000 64 := V c main_v2_0
abbrev scaled (c : Dev nD) : Mat 10000 10000 := V c main_v2_1
abbrev weights (c : Dev nD) : Mat 64 32 := V c main_arg4
abbrev bias (c : Dev nD) : Mat 1 32 := V c main_v1

theorem index3 : ∀ t : Fin grid1.N, win1_3.index t = ![t.val, 0] := by decide +kernel
theorem index4 : ∀ t : Fin grid1.N, win1_4.index t = ![t.val, 0] := by decide +kernel

/-- Row `i` of the block at grid point `t`, as a row of the array. -/
def row (t : Fin grid1.N) (i : Fin 1000) : Fin 10000 :=
  ⟨t.val * 1000 + i.val, by have h : t.val < 10 := Nat.lt_of_lt_of_eq t.isLt N_1; omega⟩

theorem emb3 (t : Fin grid1.N) (i : Fin 1000) (j : Fin 10000) : (win1_3.rect t).emb (ix2 i j) = (ix2 (row t i) j : S10000x10000.Idx) := by
  funext a; apply Fin.ext
  rw [win1_3.rect_emb_val, index3]
  match a with
  | ⟨0, _⟩ => rfl
  | ⟨1, _⟩ => show 0 * 10000 + j.val = j.val; omega

theorem emb4 (t : Fin grid1.N) (i : Fin 1000) (j : Fin 32) : (win1_4.rect t).emb (ix2 i j) = (ix2 (row t i) j : S10000x32.Idx) := by
  funext a; apply Fin.ext
  rw [win1_4.rect_emb_val, index4]
  match a with
  | ⟨0, _⟩ => rfl
  | ⟨1, _⟩ => show 0 * 32 + j.val = j.val; omega

/-- The block read at grid point `t`, at an entry: the array's entry in that block's row. -/
theorem adjBlock_entry (c : Dev nD) (t : Fin grid1.N) (i : Fin 1000) (k : Fin 10000) :
    (adjBlock V c t : Mat 1000 10000) (ix2 i k) = scaled V c (ix2 (row t i) k) :=
  congrArg (scaled V c) (emb3 t i k)

/-- Pass 2's result, whatever it reads: the two halves of one product joined, scaled, the bias added. -/
theorem joined_eq (c : Dev nD) :
    (dat V c).arrAt 4 cfg1.N = (mat fun i j => (product (scaled V c) (rhs V c : Mat 10000 64) (ix2 i (left j))
      + product (scaled V c) (rhs V c : Mat 10000 64) (ix2 i (right j)) * ((1 / 16 : ℝ) : EReal)) * (scale V c : EReal) + bias V c (ix2 0 j) : Mat 10000 32) := by
  refine (dat V c).arrAt_eq_of_covers 4 _ (by decide +kernel) fun t hf y => ?_
  obtain ⟨i, j, rfl⟩ : ∃ (i : Fin 1000) (j : Fin 32), y = (ix2 i j : S1000x32.Idx) := exists_ix2 (M := 1000) (N := 32) y
  show k1_pay8 (adjBlock V c t) (rhs V c) (scale V c) (V c main_v1 : Vec Ideal S1x32 .f32) (ix2 i j) = mat _ ((win1_4.rect t).emb (ix2 i j))
  rw [emb4, k1_pay8_entry, mat_ix2, product_row (adjBlock_entry V c t i), product_row (adjBlock_entry V c t i)]

/-- Pass 2's result from a finite support and the finite adjacency scaled: the second layer. -/
theorem result_eq (c : Dev nD) {a : Mat 10000 10000} (ha : AllReal a) (hq : ∀ i j, scaled V c (ix2 i j) = a (ix2 i j) * ((2097152 : ℝ) : EReal))
    (hp : AllReal (product (hidden V c) (weights V c))) :
    (dat V c).arrAt 4 cfg1.N = layer a (product (hidden V c) (weights V c)) fun j => bias V c (ix2 0 j) := by
  obtain ⟨s, h0, hs⟩ := k1_pay2_real hp
  refine (joined_eq V c).trans (mat_ext (M := 10000) (N := 32) fun i j => ?_)
  have hl : ∀ k, (rhs V c : Mat 10000 64) (ix2 k (left j)) = product (hidden V c) (weights V c) (ix2 k j) * (s : EReal) := fun k =>
    (parts_left _ _ k j).trans (k1_pay5_entry hs k j)
  have hr : ∀ k, (rhs V c : Mat 10000 64) (ix2 k (right j)) = 0 := fun k => (parts_right _ _ k j).trans (k1_pay6_entry hp hs k j)
  unfold layer
  rw [mat_ix2, mat_ix2, show (scale V c : EReal) = _ from k1_pay7_eq h0 hs, product_ix2 _ _ i (left j), product_ix2 _ _ i (right j)]
  simp only [hl, hr, hq]
  rw [scaled_product ha hp i j 2097152 s _ (by norm_num) h0.ne']

end Pass2

variable (m : (ℓ : Loc nD τ sig) → Buf (Elt Ideal) ℓ)

/-- The arguments, as matrices and rows. -/
abbrev argX (c : Dev nD) : Mat 10000 128 := m ((c : Thread nD τ).loc main_arg0)
abbrev argA (c : Dev nD) : Mat 10000 10000 := m ((c : Thread nD τ).loc main_arg1)
abbrev argW1 (c : Dev nD) : Mat 128 64 := m ((c : Thread nD τ).loc main_arg2)
abbrev argB1 (c : Dev nD) (j : Fin 64) : EReal := (m ((c : Thread nD τ).loc main_arg3) : (⟨1, ![64]⟩ : Shape).Idx → EReal) (ix1 j)
abbrev argW2 (c : Dev nD) : Mat 64 32 := m ((c : Thread nD τ).loc main_arg4)
abbrev argB2 (c : Dev nD) (j : Fin 32) : EReal := (m ((c : Thread nD τ).loc main_arg5) : (⟨1, ![32]⟩ : Shape).Idx → EReal) (ix1 j)

/-- A row vector made a one-row matrix, read at an entry. -/
theorem row_entry {N : ℕ} (b : (⟨1, ![N]⟩ : Shape).Idx → EReal) (h : (⟨1, ![N]⟩ : Shape).ShapeCasts ⟨2, ![1, N]⟩) (j : Fin N) :
    shapeCast ⟨2, ![1, N]⟩ b h (ix2 0 j) = b (ix1 j) :=
  (shapeCast_addUnit_apply ![N] b h (ix2 0 j)).trans (congrArg b (funext fun a => by match a with | ⟨0, _⟩ => rfl))

/-- The two biases as the passes read them: one row each. -/
theorem bias1_eq (c : Dev nD) : V1 m c main_v0 = shapeCast S1x64 (m ((c : Thread nD τ).loc main_arg3)) shapeCasts_S64_S1x64 := by
  unfold_abbrev_sides
  after_results
  rfl

theorem bias2_eq (c : Dev nD) : V1 m c main_v1 = shapeCast S1x32 (m ((c : Thread nD τ).loc main_arg5)) shapeCasts_S32_S1x32 := by
  unfold_abbrev_sides
  after_results
  rfl

theorem bias1_entry (c : Dev nD) (j : Fin 64) : Pass1.bias (atRefs (V1 m)) c (ix2 0 j) = argB1 m c j := by
  rw [show Pass1.bias (atRefs (V1 m)) c = _ from bias1_eq m c]
  exact row_entry (N := 64) _ _ j

theorem bias2_entry (c : Dev nD) (j : Fin 32) : Pass2.bias (atRefs (W2 m)) c (ix2 0 j) = argB2 m c j := by
  rw [show Pass2.bias (atRefs (W2 m)) c = _ from (W2_of m c main_v1 (by decide) (by decide)).trans (bias2_eq m c)]
  exact row_entry (N := 32) _ _ j

/-- An argument as pass 1 finds it: as launched. -/
theorem V1_arg (c : Dev nD) (r : Ref sig .tc) (h : r ∉ hostOps0_W) : V1 m c r = m ((c : Thread nD τ).loc r) := (V1_of m c r h).trans rfl

/-- The hidden layer as pass 2 finds it. -/
theorem hidden_found (c : Dev nD) :
    Pass2.hidden (atRefs (W2 m)) c = relu (layer (argA m c) (product (argX m c) (argW1 m c)) (argB1 m c)) := by
  refine (W2_hidden m c).trans ((Pass1.hidden_eq (atRefs (V1 m)) c).trans ?_)
  rw [show (fun j => Pass1.bias (atRefs (V1 m)) c (ix2 0 j)) = argB1 m c from funext (bias1_entry m c),
    show Pass1.adjacency (atRefs (V1 m)) c = argA m c from V1_arg m c main_arg1 (by decide),
    show Pass1.features (atRefs (V1 m)) c = argX m c from V1_arg m c main_arg0 (by decide),
    show Pass1.weights (atRefs (V1 m)) c = argW1 m c from V1_arg m c main_arg2 (by decide)]

/-- The scaled adjacency as pass 2 finds it. -/
theorem scaled_found (c : Dev nD) (i j : Fin 10000) :
    Pass2.scaled (atRefs (W2 m)) c (ix2 i j) = argA m c (ix2 i j) * ((2097152 : ℝ) : EReal) := by
  rw [show Pass2.scaled (atRefs (W2 m)) c = _ from (W2_scaled m c).trans (Pass1.scaled_eq (atRefs (V1 m)) c), mat_ix2,
    show Pass1.adjacency (atRefs (V1 m)) c = argA m c from V1_arg m c main_arg1 (by decide)]

theorem weights_found (c : Dev nD) : Pass2.weights (atRefs (W2 m)) c = argW2 m c :=
  (W2_of m c main_arg4 (by decide) (by decide)).trans (V1_arg m c main_arg4 (by decide))

/-- THE VALUE: with finite features, adjacency, weights and first bias, the result array is both layers of the network. -/
theorem resultOut_eq (c : Dev nD) (hx : AllReal (argX m c)) (ha : AllReal (argA m c)) (hw1 : AllReal (argW1 m c))
    (hb1 : ∃ r : Fin 64 → ℝ, ∀ j, argB1 m c j = (r j : EReal)) (hw2 : AllReal (argW2 m c)) :
    resultOut m c = network (argX m c) (argA m c) (argW1 m c) (argB1 m c) (argW2 m c) (argB2 m c) := by
  have hp : AllReal (product (Pass2.hidden (atRefs (W2 m)) c) (Pass2.weights (atRefs (W2 m)) c)) := by
    rw [hidden_found, weights_found]
    exact (ha.layer (hx.product hw1) hb1).relu.product hw2
  refine (Pass2.result_eq (atRefs (W2 m)) c ha (scaled_found m c) hp).trans ?_
  rw [show (fun j => Pass2.bias (atRefs (W2 m)) c (ix2 0 j)) = argB2 m c from funext (bias2_entry m c), hidden_found, weights_found]
  unfold network
  rfl

end Cert.Proof

end
-- ==== Proof.Precondition.lean ====
/-
  What the precondition says of an array: every entry is a real number.
-/
module

public import proofs.«01_k».proof.Defs
public import proofs.«01_k».proof.Proof.Gen.Pre_finite
public import proofs.«01_k».proof.Proof.Finite
public import proofs.«01_k».proof.Proof.Constants
public import proofs.«01_k».proof.Proof.Result

@[expose] public section

set_option maxRecDepth 16384

noncomputable section

namespace Cert.Proof

open Idealize.ShloMosaic hiding ix1 ix2 eq_ix2
open Idealize.ShloMosaic.ValueIdx Idealize.ShloMosaic.TcCoe

/-- A number whose magnitude is below infinity is real. -/
theorem real_of_lt {x : EReal} (h : max x (-x) < ⊤) : ∃ r : ℝ, x = (r : EReal) := by
  have ht : x ≠ ⊤ := fun e => by subst e; simp at h
  have hb : x ≠ ⊥ := fun e => by subst e; simp at h
  exact ⟨x.toReal, (EReal.coe_toReal ht hb).symm⟩

/-- The test the precondition makes of every entry, passed at one. -/
theorem real_of_test {s : Shape} (v : FVec Ideal s .f32) (hb : (⟨0, ![]⟩ : Shape).BroadcastsInDim s ![])
    (h : cmpf .olt (Host.absf v) (broadcastInDim s ![] hb (constant (F := Ideal) ⟨0, ![]⟩ .f32 0x7F800000#32)) = fun _ => 1#1) (y : s.Idx) :
    ∃ r : ℝ, v y = (r : EReal) := by
  have hy : Ideal.cmp .olt (max (v y) (-(v y))) (Ideal.ofBits .f32 0x7F800000#32) = 1#1 := congrFun h y
  rw [lit_top] at hy
  refine real_of_lt ?_
  by_contra hn
  simp [Ideal.cmp, hn] at hy

theorem allReal_of_test {M N : ℕ} (v : FVec Ideal ⟨2, ![M, N]⟩ .f32) (hb : (⟨0, ![]⟩ : Shape).BroadcastsInDim ⟨2, ![M, N]⟩ ![])
    (h : cmpf .olt (Host.absf v) (broadcastInDim ⟨2, ![M, N]⟩ ![] hb (constant (F := Ideal) ⟨0, ![]⟩ .f32 0x7F800000#32)) = fun _ => 1#1) :
    AllReal (M := M) (N := N) v :=
  ⟨fun i j => (real_of_test v hb h (ix2 i j)).choose, fun i j => (real_of_test v hb h (ix2 i j)).choose_spec⟩

theorem rowReal_of_test {N : ℕ} (v : FVec Ideal ⟨1, ![N]⟩ .f32) (hb : (⟨0, ![]⟩ : Shape).BroadcastsInDim ⟨1, ![N]⟩ ![])
    (h : cmpf .olt (Host.absf v) (broadcastInDim ⟨1, ![N]⟩ ![] hb (constant (F := Ideal) ⟨0, ![]⟩ .f32 0x7F800000#32)) = fun _ => 1#1) :
    ∃ r : Fin N → ℝ, ∀ j, v (ix1 j) = (r j : EReal) :=
  ⟨fun j => (real_of_test v hb h (ix1 j)).choose, fun j => (real_of_test v hb h (ix1 j)).choose_spec⟩

/-- Under the precondition the kernel's result array is both layers of the network. -/
theorem resultOut_of_finite (m : (ℓ : Loc Cert.KernelIdeal.nD Cert.KernelIdeal.τ Cert.KernelIdeal.sig) → Buf (Elt Ideal) ℓ)
    (h : Cert.Pre_KernelIdeal_finite m) (c : Dev Cert.KernelIdeal.nD) :
    resultOut m c = network (argX m c) (argA m c) (argW1 m c) (argB1 m c) (argW2 m c) (argB2 m c) := by
  obtain ⟨hx, ha, hw1, hb1, hw2⟩ := h c
  exact resultOut_eq m c (allReal_of_test _ _ hx) (allReal_of_test _ _ ha) (allReal_of_test _ _ hw1) (rowReal_of_test _ _ hb1) (allReal_of_test _ _ hw2)

end Cert.Proof

end
-- ==== Proof.lean ====
module

public import proofs.«01_k».proof.Defs
public import proofs.«01_k».proof.Proof.Printed
public import proofs.«01_k».proof.Proof.Reference
public import proofs.«01_k».proof.Proof.Precondition
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import Idealize.ShloMosaic.Adequacy
public import Idealize.ShloMosaic.Init

@[expose] public section

noncomputable section

namespace Cert.Proof

open Idealize.ShloMosaic Idealize.SL.Sem

/-- The reference's run with its result forgotten: each argument as launched, and no counter to leave anything in. -/
theorem reference_quiet : Cert.quiescent_ReferenceIdeal := fun m g _ =>
  (θ_run (Cert.ReferenceIdeal.defs (F := Ideal)) _ _).mono (fun r h => ⟨fun c => (h c).2, sem_eq_zero_of_no_sems (by decide) r.2⟩)
    (Cert.ReferenceIdeal.Value.run (F := Ideal) m g)

/-- From launches whose arguments agree, finite on the kernel's side, the kernel and the reference end with one result. -/
theorem agree : Cert.algebraic_KernelIdeal_ReferenceIdeal_pre_finite := by
  intro m g m' g' hm hargs
  refine ⟨fun c => resultOut m c, (θ_run _ _ _).mono (fun _ h => h.1) (run m g), (θ_run _ _ _).mono (fun _ h c => ⟨(h c).1.trans ?_, (h c).2⟩)
    (Cert.ReferenceIdeal.Value.run (F := Ideal) m' g')⟩
  obtain ⟨e0, e1, e2, e3, e4, e5⟩ := hargs c
  rw [e0, e1, e2, e3, e4, e5]
  refine (Cert.ReferenceIdeal.Read.val_main_v10_eq (F := Ideal) _ _ _ _ _ _).trans ((Reference.result_eq _ _ _ _ _ _).trans ?_)
  exact (resultOut_of_finite m hm c).symm

/-- Everything claimed. -/
theorem claim : Cert.Claim :=
  ⟨Cert.Kernel.Gen.facts, Cert.KernelIdeal.Gen.facts, Cert.ReferenceIdeal.Gen.facts, Cert.Pre_finite.Gen.facts,
    printed_quiet, fun m g _ => quiet m g, fun m g _ => quiet m g, reference_quiet, fun m g _ => reference_quiet m g trivial, trivial, agree⟩

end Cert.Proof

end
